-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S1x96x224x224 : Shape := ⟨4, ![1, 96, 224, 224]⟩
abbrev S8x96x3x3 : Shape := ⟨4, ![8, 96, 3, 3]⟩
abbrev S8x96x96x3x3 : Shape := ⟨5, ![8, 96, 96, 3, 3]⟩
abbrev S8x96 : Shape := ⟨2, ![8, 96]⟩
abbrev S96x96x3x3 : Shape := ⟨4, ![96, 96, 3, 3]⟩
abbrev S96 : Shape := ⟨1, ![96]⟩
abbrev S_ : Shape := ⟨0, ![]⟩

class Facts : Prop where
  bcast_S_S1x96x224x224 : S_.BroadcastsInDim S1x96x224x224 (![] : Fin 0 → Fin S1x96x224x224.rank)
  reducesTo_S1x96x224x224_S_d0_1_2_3 : S1x96x224x224.ReducesTo [0, 1, 2, 3] S_
  h_S_ : 0 < S_.numel
  bcast_S_S8x96x3x3 : S_.BroadcastsInDim S8x96x3x3 (![] : Fin 0 → Fin S8x96x3x3.rank)
  reducesTo_S8x96x3x3_S_d0_1_2_3 : S8x96x3x3.ReducesTo [0, 1, 2, 3] S_

variable [Facts]

def fn {F : FTy → Type} [FloatOps F] (main_arg0 : FVec F S1x96x224x224 .f32) (main_arg1 : FVec F S8x96x3x3 .f32) (main_arg2 : FVec F S8x96x96x3x3 .f32) (main_arg3 : FVec F S8x96 .f32) (main_arg4 : FVec F S96x96x3x3 .f32) (main_arg5 : FVec F S96 .f32) : IVec S_ 1 :=
  let main_v0 : FVec F S1x96x224x224 .f32 := Host.absf main_arg0
  let main_cst : FVec F S_ .f32 := constant S_ .f32 0x7F800000#32
  let main_v1 : FVec F S1x96x224x224 .f32 := broadcastInDim S1x96x224x224 ![] bcast_S_S1x96x224x224 main_cst
  let main_v2 : IVec S1x96x224x224 1 := cmpf .olt main_v0 main_v1
  let main_c : IVec S_ 1 := constantI S_ 1 1#1
  let main_v3 : IVec S_ 1 := (fun x v => Host.reduce IntOp.andi x v reducesTo_S1x96x224x224_S_d0_1_2_3 h_S_) main_v2 main_c
  let main_v4 : FVec F S8x96x3x3 .f32 := Host.absf main_arg1
  let main_cst_0 : FVec F S_ .f32 := constant S_ .f32 0x7F800000#32
  let main_v5 : FVec F S8x96x3x3 .f32 := broadcastInDim S8x96x3x3 ![] bcast_S_S8x96x3x3 main_cst_0
  let main_v6 : IVec S8x96x3x3 1 := cmpf .olt main_v4 main_v5
  let main_c_1 : IVec S_ 1 := constantI S_ 1 1#1
  let main_v7 : IVec S_ 1 := (fun x v => Host.reduce IntOp.andi x v reducesTo_S8x96x3x3_S_d0_1_2_3 h_S_) main_v6 main_c_1
  let main_v8 : IVec S_ 1 := andi main_v3 main_v7
  main_v8
-- ==== Kernel.lean ====
abbrev S1x96x224x224 : Shape := ⟨4, ![1, 96, 224, 224]⟩
abbrev S8x96x3x3 : Shape := ⟨4, ![8, 96, 3, 3]⟩
abbrev S8x96x96x3x3 : Shape := ⟨5, ![8, 96, 96, 3, 3]⟩
abbrev S8x96 : Shape := ⟨2, ![8, 96]⟩
abbrev S96x96x3x3 : Shape := ⟨4, ![96, 96, 3, 3]⟩
abbrev S96 : Shape := ⟨1, ![96]⟩
abbrev S96x224x224 : Shape := ⟨3, ![96, 224, 224]⟩
abbrev S_ : Shape := ⟨0, ![]⟩
abbrev S96x256x256 : Shape := ⟨3, ![96, 256, 256]⟩
abbrev S96x65536 : Shape := ⟨2, ![96, 65536]⟩
abbrev S768x96x3x3 : Shape := ⟨4, ![768, 96, 3, 3]⟩
abbrev S864x96x3x3 : Shape := ⟨4, ![864, 96, 3, 3]⟩
abbrev S864x3x3x96 : Shape := ⟨4, ![864, 3, 3, 96]⟩
abbrev S864x864 : Shape := ⟨2, ![864, 864]⟩
abbrev S8x3x3x96 : Shape := ⟨4, ![8, 3, 3, 96]⟩
abbrev S8x864 : Shape := ⟨2, ![8, 864]⟩
abbrev S880x864 : Shape := ⟨2, ![880, 864]⟩
abbrev S96x8 : Shape := ⟨2, ![96, 8]⟩
abbrev S96x1 : Shape := ⟨2, ![96, 1]⟩
abbrev S96x16x224 : Shape := ⟨3, ![96, 16, 224]⟩
abbrev S96x4864 : Shape := ⟨2, ![96, 4864]⟩
abbrev S96x4608 : Shape := ⟨2, ![96, 4608]⟩
abbrev S96x4096 : Shape := ⟨2, ![96, 4096]⟩
abbrev S864x4096 : Shape := ⟨2, ![864, 4096]⟩
abbrev S880x4096 : Shape := ⟨2, ![880, 4096]⟩
abbrev S16x864 : Shape := ⟨2, ![16, 864]⟩
abbrev S16x4096 : Shape := ⟨2, ![16, 4096]⟩
abbrev S8x4096 : Shape := ⟨2, ![8, 4096]⟩
abbrev S1x4096 : Shape := ⟨2, ![1, 4096]⟩
abbrev S96x16x256 : Shape := ⟨3, ![96, 16, 256]⟩

abbrev nBuf : Space → Nat
  | .hbm => 33
  | .vmem => 7
  | .smem => 0
  | _ => 0

abbrev bufTy : (tb : Table) → Fin (tcTables nBuf tb) → BufTy
  | .hbm, ⟨0, _⟩ => ⟨S1x96x224x224, .f32⟩
  | .hbm, ⟨1, _⟩ => ⟨S8x96x3x3, .f32⟩
  | .hbm, ⟨2, _⟩ => ⟨S8x96x96x3x3, .f32⟩
  | .hbm, ⟨3, _⟩ => ⟨S8x96, .f32⟩
  | .hbm, ⟨4, _⟩ => ⟨S96x96x3x3, .f32⟩
  | .hbm, ⟨5, _⟩ => ⟨S96, .f32⟩
  | .hbm, ⟨6, _⟩ => ⟨S96x224x224, .f32⟩
  | .hbm, ⟨7, _⟩ => ⟨S_, .i32⟩
  | .hbm, ⟨8, _⟩ => ⟨S_, .f32⟩
  | .hbm, ⟨9, _⟩ => ⟨S96x256x256, .f32⟩
  | .hbm, ⟨10, _⟩ => ⟨S96x256x256, .bf16⟩
  | .hbm, ⟨11, _⟩ => ⟨S96x65536, .bf16⟩
  | .hbm, ⟨12, _⟩ => ⟨S96x256x256, .bf16⟩
  | .hbm, ⟨13, _⟩ => ⟨S96x256x256, .f32⟩
  | .hbm, ⟨14, _⟩ => ⟨S96x256x256, .f32⟩
  | .hbm, ⟨15, _⟩ => ⟨S96x256x256, .bf16⟩
  | .hbm, ⟨16, _⟩ => ⟨S96x65536, .bf16⟩
  | .hbm, ⟨17, _⟩ => ⟨S768x96x3x3, .f32⟩
  | .hbm, ⟨18, _⟩ => ⟨S864x96x3x3, .f32⟩
  | .hbm, ⟨19, _⟩ => ⟨S864x3x3x96, .f32⟩
  | .hbm, ⟨20, _⟩ => ⟨S864x864, .f32⟩
  | .hbm, ⟨21, _⟩ => ⟨S8x3x3x96, .f32⟩
  | .hbm, ⟨22, _⟩ => ⟨S8x864, .f32⟩
  | .hbm, ⟨23, _⟩ => ⟨S8x864, .bf16⟩
  | .hbm, ⟨24, _⟩ => ⟨S8x864, .f32⟩
  | .hbm, ⟨25, _⟩ => ⟨S8x864, .f32⟩
  | .hbm, ⟨26, _⟩ => ⟨S8x864, .bf16⟩
  | .hbm, ⟨27, _⟩ => ⟨S864x864, .bf16⟩
  | .hbm, ⟨28, _⟩ => ⟨S880x864, .bf16⟩
  | .hbm, ⟨29, _⟩ => ⟨S96x8, .f32⟩
  | .hbm, ⟨30, _⟩ => ⟨S96x1, .f32⟩
  | .hbm, ⟨31, _⟩ => ⟨S96x224x224, .f32⟩
  | .hbm, ⟨32, _⟩ => ⟨S1x96x224x224, .f32⟩
  | .local _ .vmem, ⟨0, _⟩ => ⟨S96x65536, .bf16⟩
  | .local _ .vmem, ⟨1, _⟩ => ⟨S96x65536, .bf16⟩
  | .local _ .vmem, ⟨2, _⟩ => ⟨S880x864, .bf16⟩
  | .local _ .vmem, ⟨3, _⟩ => ⟨S96x8, .f32⟩
  | .local _ .vmem, ⟨4, _⟩ => ⟨S96x1, .f32⟩
  | .local _ .vmem, ⟨5, _⟩ => ⟨S96x16x224, .f32⟩
  | .local _ .vmem, ⟨6, _⟩ => ⟨S96x16x224, .f32⟩
  | _, _ => ⟨S1x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![14], ![false]⟩

def k0_mult1 (i : grid0.Coords) : BitVec 32 :=
  let arg0 : BitVec 32 := BitVec.ofNat 32 (i 0).val
  let c4096_i32 : BitVec 32 := 4096#32
  let v0 : BitVec 32 := Scalar.muli arg0 c4096_i32
  let c3712_i32 : BitVec 32 := 3712#32
  let v1 : BitVec 32 := Scalar.addi v0 c3712_i32
  v1
def k0_off1 (i : grid0.Coords) : Fin 2 → Nat :=
  let c0 : Index := 0#32
  let arg0 : BitVec 32 := BitVec.ofNat 32 (i 0).val
  let c4096_i32 : BitVec 32 := 4096#32
  let v0 : BitVec 32 := Scalar.muli arg0 c4096_i32
  let c3712_i32 : BitVec 32 := 3712#32
  let v1 : BitVec 32 := Scalar.addi v0 c3712_i32
  let v2 : BitVec 32 := v1
  let v3 : Index := Scalar.indexCast v2
  ![0, v3.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S96x65536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x65536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S880x864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S96x16x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x96x224x224 : Shape := ⟨4, ![1, 96, 224, 224]⟩
abbrev S8x96x3x3 : Shape := ⟨4, ![8, 96, 3, 3]⟩
abbrev S8x96x96x3x3 : Shape := ⟨5, ![8, 96, 96, 3, 3]⟩
abbrev S8x96 : Shape := ⟨2, ![8, 96]⟩
abbrev S96x96x3x3 : Shape := ⟨4, ![96, 96, 3, 3]⟩
abbrev S96 : Shape := ⟨1, ![96]⟩
abbrev S_ : Shape := ⟨0, ![]⟩
abbrev S8 : Shape := ⟨1, ![8]⟩
abbrev S1x96x226x226 : Shape := ⟨4, ![1, 96, 226, 226]⟩
abbrev S1x8x224x224 : Shape := ⟨4, ![1, 8, 224, 224]⟩
abbrev S8x96x1x1 : Shape := ⟨4, ![8, 96, 1, 1]⟩
abbrev S1x224x224x8 : Shape := ⟨4, ![1, 224, 224, 8]⟩
abbrev S1x8x1x1 : Shape := ⟨4, ![1, 8, 1, 1]⟩
abbrev S1x224x224x2 : Shape := ⟨4, ![1, 224, 224, 2]⟩
abbrev S1x2x224x224 : Shape := ⟨4, ![1, 2, 224, 224]⟩
abbrev S2x224x224x1 : Shape := ⟨4, ![2, 224, 224, 1]⟩
abbrev S1 : Shape := ⟨1, ![1]⟩
abbrev S1x1x1x1 : Shape := ⟨4, ![1, 1, 1, 1]⟩
abbrev S2x224x224 : Shape := ⟨3, ![2, 224, 224]⟩
abbrev S1x224x224 : Shape := ⟨3, ![1, 224, 224]⟩
abbrev S1x1x224x224 : Shape := ⟨4, ![1, 1, 224, 224]⟩
abbrev S1x1x2x224x224 : Shape := ⟨5, ![1, 1, 2, 224, 224]⟩
abbrev S8x1x1x1x1 : Shape := ⟨5, ![8, 1, 1, 1, 1]⟩
abbrev S8x1x2x224x224 : Shape := ⟨5, ![8, 1, 2, 224, 224]⟩
abbrev S8x1x224x224 : Shape := ⟨4, ![8, 1, 224, 224]⟩
abbrev S8x1x1x224x224 : Shape := ⟨5, ![8, 1, 1, 224, 224]⟩
abbrev S8x96x96x1x1 : Shape := ⟨5, ![8, 96, 96, 1, 1]⟩
abbrev S8x96x96 : Shape := ⟨3, ![8, 96, 96]⟩
abbrev S1x224x224x8x96 : Shape := ⟨5, ![1, 224, 224, 8, 96]⟩
abbrev S8x1x96x224x224 : Shape := ⟨5, ![8, 1, 96, 224, 224]⟩
abbrev S1x1x96x224x224 : Shape := ⟨5, ![1, 1, 96, 224, 224]⟩
abbrev S8x1x96x1x1 : Shape := ⟨5, ![8, 1, 96, 1, 1]⟩
abbrev S96x96x1x1 : Shape := ⟨4, ![96, 96, 1, 1]⟩
abbrev S96x96 : Shape := ⟨2, ![96, 96]⟩
abbrev S1x224x224x96 : Shape := ⟨4, ![1, 224, 224, 96]⟩
abbrev S1x96x1x1 : Shape := ⟨4, ![1, 96, 1, 1]⟩

abbrev nBuf : Space → Nat
  | .hbm => 266
  | .vmem => 0
  | .smem => 0
  | _ => 0

abbrev hbmTy0_0 (i : Nat) : BufTy := match i % 128 with
  | 0 => ⟨S1x96x224x224, .f32⟩
  | 1 => ⟨S8x96x3x3, .f32⟩
  | 2 => ⟨S8x96x96x3x3, .f32⟩
  | 3 => ⟨S8x96, .f32⟩
  | 4 => ⟨S96x96x3x3, .f32⟩
  | 5 => ⟨S96, .f32⟩
  | 6 => ⟨S_, .f32⟩
  | 7 => ⟨S8, .f32⟩
  | 8 => ⟨S_, .i32⟩
  | 9 => ⟨S_, .f32⟩
  | 10 => ⟨S1x96x226x226, .f32⟩
  | 11 => ⟨S_, .f32⟩
  | 12 => ⟨S1x8x224x224, .f32⟩
  | 13 => ⟨S8x96x1x1, .f32⟩
  | 14 => ⟨S8x96, .f32⟩
  | 15 => ⟨S1x96x224x224, .f32⟩
  | 16 => ⟨S1x224x224x8, .f32⟩
  | 17 => ⟨S1x8x224x224, .f32⟩
  | 18 => ⟨S1x8x224x224, .f32⟩
  | 19 => ⟨S8x96x1x1, .f32⟩
  | 20 => ⟨S8x96, .f32⟩
  | 21 => ⟨S1x96x224x224, .f32⟩
  | 22 => ⟨S1x224x224x8, .f32⟩
  | 23 => ⟨S1x8x224x224, .f32⟩
  | 24 => ⟨S1x8x224x224, .f32⟩
  | 25 => ⟨S8x96x1x1, .f32⟩
  | 26 => ⟨S8x96, .f32⟩
  | 27 => ⟨S1x96x224x224, .f32⟩
  | 28 => ⟨S1x224x224x8, .f32⟩
  | 29 => ⟨S1x8x224x224, .f32⟩
  | 30 => ⟨S1x8x224x224, .f32⟩
  | 31 => ⟨S8x96x1x1, .f32⟩
  | 32 => ⟨S8x96, .f32⟩
  | 33 => ⟨S1x96x224x224, .f32⟩
  | 34 => ⟨S1x224x224x8, .f32⟩
  | 35 => ⟨S1x8x224x224, .f32⟩
  | 36 => ⟨S1x8x224x224, .f32⟩
  | 37 => ⟨S8x96x1x1, .f32⟩
  | 38 => ⟨S8x96, .f32⟩
  | 39 => ⟨S1x96x224x224, .f32⟩
  | 40 => ⟨S1x224x224x8, .f32⟩
  | 41 => ⟨S1x8x224x224, .f32⟩
  | 42 => ⟨S1x8x224x224, .f32⟩
  | 43 => ⟨S8x96x1x1, .f32⟩
  | 44 => ⟨S8x96, .f32⟩
  | 45 => ⟨S1x96x224x224, .f32⟩
  | 46 => ⟨S1x224x224x8, .f32⟩
  | 47 => ⟨S1x8x224x224, .f32⟩
  | 48 => ⟨S1x8x224x224, .f32⟩
  | 49 => ⟨S8x96x1x1, .f32⟩
  | 50 => ⟨S8x96, .f32⟩
  | 51 => ⟨S1x96x224x224, .f32⟩
  | 52 => ⟨S1x224x224x8, .f32⟩
  | 53 => ⟨S1x8x224x224, .f32⟩
  | 54 => ⟨S1x8x224x224, .f32⟩
  | 55 => ⟨S8x96x1x1, .f32⟩
  | 56 => ⟨S8x96, .f32⟩
  | 57 => ⟨S1x96x224x224, .f32⟩
  | 58 => ⟨S1x224x224x8, .f32⟩
  | 59 => ⟨S1x8x224x224, .f32⟩
  | 60 => ⟨S1x8x224x224, .f32⟩
  | 61 => ⟨S8x96x1x1, .f32⟩
  | 62 => ⟨S8x96, .f32⟩
  | 63 => ⟨S1x96x224x224, .f32⟩
  | 64 => ⟨S1x224x224x8, .f32⟩
  | 65 => ⟨S1x8x224x224, .f32⟩
  | 66 => ⟨S1x8x224x224, .f32⟩
  | 67 => ⟨S1x8x224x224, .f32⟩
  | 68 => ⟨S1x8x224x224, .f32⟩
  | 69 => ⟨S_, .f32⟩
  | 70 => ⟨S1x8x224x224, .f32⟩
  | 71 => ⟨S1x8x224x224, .f32⟩
  | 72 => ⟨S_, .f32⟩
  | 73 => ⟨S1x8x224x224, .f32⟩
  | 74 => ⟨S1x8x224x224, .f32⟩
  | 75 => ⟨S1x8x1x1, .f32⟩
  | 76 => ⟨S1x8x224x224, .f32⟩
  | 77 => ⟨S1x8x224x224, .f32⟩
  | 78 => ⟨S1x224x224x8, .f32⟩
  | 79 => ⟨S1x224x224x2, .f32⟩
  | 80 => ⟨S1x224x224x2, .i32⟩
  | 81 => ⟨S1x2x224x224, .i32⟩
  | 82 => ⟨S_, .i32⟩
  | 83 => ⟨S1x2x224x224, .i32⟩
  | 84 => ⟨S1x2x224x224, .i1⟩
  | 85 => ⟨S_, .i32⟩
  | 86 => ⟨S1x2x224x224, .i32⟩
  | 87 => ⟨S1x2x224x224, .i32⟩
  | 88 => ⟨S1x2x224x224, .i32⟩
  | 89 => ⟨S2x224x224x1, .i32⟩
  | 90 => ⟨S1, .i32⟩
  | 91 => ⟨S_, .i32⟩
  | 92 => ⟨S2x224x224x1, .i32⟩
  | 93 => ⟨S2x224x224x1, .i1⟩
  | 94 => ⟨S1x1x1x1, .i32⟩
  | 95 => ⟨S2x224x224x1, .i32⟩
  | 96 => ⟨S2x224x224x1, .i1⟩
  | 97 => ⟨S2x224x224x1, .i1⟩
  | 98 => ⟨S_, .i1⟩
  | 99 => ⟨S2x224x224, .i1⟩
  | 100 => ⟨S1x2x224x224, .f32⟩
  | 101 => ⟨S1x2x224x224, .i1⟩
  | 102 => ⟨S_, .f32⟩
  | 103 => ⟨S1x2x224x224, .f32⟩
  | 104 => ⟨S1x2x224x224, .f32⟩
  | 105 => ⟨S_, .f32⟩
  | 106 => ⟨S1x224x224, .f32⟩
  | 107 => ⟨S_, .f32⟩
  | 108 => ⟨S1x224x224, .f32⟩
  | 109 => ⟨S1x224x224, .f32⟩
  | 110 => ⟨S1x1x224x224, .f32⟩
  | 111 => ⟨S1x2x224x224, .f32⟩
  | 112 => ⟨S1x2x224x224, .f32⟩
  | 113 => ⟨S1x2x224x224, .f32⟩
  | 114 => ⟨S_, .f32⟩
  | 115 => ⟨S1x224x224, .f32⟩
  | 116 => ⟨S1x1x224x224, .f32⟩
  | 117 => ⟨S1x2x224x224, .f32⟩
  | 118 => ⟨S1x2x224x224, .f32⟩
  | 119 => ⟨S_, .f32⟩
  | 120 => ⟨S1x2x224x224, .f32⟩
  | 121 => ⟨S1x2x224x224, .f32⟩
  | 122 => ⟨S8, .i32⟩
  | 123 => ⟨S1x1x2x224x224, .i32⟩
  | 124 => ⟨S8x1x1x1x1, .i32⟩
  | 125 => ⟨S8x1x2x224x224, .i32⟩
  | 126 => ⟨S8x1x2x224x224, .i32⟩
  | 127 => ⟨S8x1x2x224x224, .i1⟩
  | _ => ⟨S1x96x224x224, .f32⟩

abbrev hbmTy0_1 (i : Nat) : BufTy := match i % 128 with
  | 0 => ⟨S8x1x2x224x224, .f32⟩
  | 1 => ⟨S1x1x2x224x224, .f32⟩
  | 2 => ⟨S8x1x2x224x224, .f32⟩
  | 3 => ⟨S8x1x2x224x224, .f32⟩
  | 4 => ⟨S_, .f32⟩
  | 5 => ⟨S8x1x224x224, .f32⟩
  | 6 => ⟨S8x1x1x224x224, .f32⟩
  | 7 => ⟨S_, .i32⟩
  | 8 => ⟨S_, .f32⟩
  | 9 => ⟨S1x96x226x226, .f32⟩
  | 10 => ⟨S_, .f32⟩
  | 11 => ⟨S1x96x224x224, .f32⟩
  | 12 => ⟨S8x96x96x1x1, .f32⟩
  | 13 => ⟨S8x96x96, .f32⟩
  | 14 => ⟨S1x96x224x224, .f32⟩
  | 15 => ⟨S1x224x224x8x96, .f32⟩
  | 16 => ⟨S8x1x96x224x224, .f32⟩
  | 17 => ⟨S1x1x96x224x224, .f32⟩
  | 18 => ⟨S8x1x96x224x224, .f32⟩
  | 19 => ⟨S8x1x96x224x224, .f32⟩
  | 20 => ⟨S8x96x96x1x1, .f32⟩
  | 21 => ⟨S8x96x96, .f32⟩
  | 22 => ⟨S1x96x224x224, .f32⟩
  | 23 => ⟨S1x224x224x8x96, .f32⟩
  | 24 => ⟨S8x1x96x224x224, .f32⟩
  | 25 => ⟨S8x1x96x224x224, .f32⟩
  | 26 => ⟨S8x96x96x1x1, .f32⟩
  | 27 => ⟨S8x96x96, .f32⟩
  | 28 => ⟨S1x96x224x224, .f32⟩
  | 29 => ⟨S1x224x224x8x96, .f32⟩
  | 30 => ⟨S8x1x96x224x224, .f32⟩
  | 31 => ⟨S8x1x96x224x224, .f32⟩
  | 32 => ⟨S8x96x96x1x1, .f32⟩
  | 33 => ⟨S8x96x96, .f32⟩
  | 34 => ⟨S1x96x224x224, .f32⟩
  | 35 => ⟨S1x224x224x8x96, .f32⟩
  | 36 => ⟨S8x1x96x224x224, .f32⟩
  | 37 => ⟨S8x1x96x224x224, .f32⟩
  | 38 => ⟨S8x96x96x1x1, .f32⟩
  | 39 => ⟨S8x96x96, .f32⟩
  | 40 => ⟨S1x96x224x224, .f32⟩
  | 41 => ⟨S1x224x224x8x96, .f32⟩
  | 42 => ⟨S8x1x96x224x224, .f32⟩
  | 43 => ⟨S8x1x96x224x224, .f32⟩
  | 44 => ⟨S8x96x96x1x1, .f32⟩
  | 45 => ⟨S8x96x96, .f32⟩
  | 46 => ⟨S1x96x224x224, .f32⟩
  | 47 => ⟨S1x224x224x8x96, .f32⟩
  | 48 => ⟨S8x1x96x224x224, .f32⟩
  | 49 => ⟨S8x1x96x224x224, .f32⟩
  | 50 => ⟨S8x96x96x1x1, .f32⟩
  | 51 => ⟨S8x96x96, .f32⟩
  | 52 => ⟨S1x96x224x224, .f32⟩
  | 53 => ⟨S1x224x224x8x96, .f32⟩
  | 54 => ⟨S8x1x96x224x224, .f32⟩
  | 55 => ⟨S8x1x96x224x224, .f32⟩
  | 56 => ⟨S8x96x96x1x1, .f32⟩
  | 57 => ⟨S8x96x96, .f32⟩
  | 58 => ⟨S1x96x224x224, .f32⟩
  | 59 => ⟨S1x224x224x8x96, .f32⟩
  | 60 => ⟨S8x1x96x224x224, .f32⟩
  | 61 => ⟨S8x1x96x224x224, .f32⟩
  | 62 => ⟨S8x96x96x1x1, .f32⟩
  | 63 => ⟨S8x96x96, .f32⟩
  | 64 => ⟨S1x96x224x224, .f32⟩
  | 65 => ⟨S1x224x224x8x96, .f32⟩
  | 66 => ⟨S8x1x96x224x224, .f32⟩
  | 67 => ⟨S8x1x96x224x224, .f32⟩
  | 68 => ⟨S8x1x96x1x1, .f32⟩
  | 69 => ⟨S8x1x96x224x224, .f32⟩
  | 70 => ⟨S8x1x96x224x224, .f32⟩
  | 71 => ⟨S8x1x96x224x224, .f32⟩
  | 72 => ⟨S8x1x96x224x224, .f32⟩
  | 73 => ⟨S_, .f32⟩
  | 74 => ⟨S1x96x224x224, .f32⟩
  | 75 => ⟨S_, .i32⟩
  | 76 => ⟨S_, .f32⟩
  | 77 => ⟨S1x96x226x226, .f32⟩
  | 78 => ⟨S_, .f32⟩
  | 79 => ⟨S1x96x224x224, .f32⟩
  | 80 => ⟨S96x96x1x1, .f32⟩
  | 81 => ⟨S96x96, .f32⟩
  | 82 => ⟨S1x96x224x224, .f32⟩
  | 83 => ⟨S1x224x224x96, .f32⟩
  | 84 => ⟨S1x96x224x224, .f32⟩
  | 85 => ⟨S1x96x224x224, .f32⟩
  | 86 => ⟨S96x96x1x1, .f32⟩
  | 87 => ⟨S96x96, .f32⟩
  | 88 => ⟨S1x96x224x224, .f32⟩
  | 89 => ⟨S1x224x224x96, .f32⟩
  | 90 => ⟨S1x96x224x224, .f32⟩
  | 91 => ⟨S1x96x224x224, .f32⟩
  | 92 => ⟨S96x96x1x1, .f32⟩
  | 93 => ⟨S96x96, .f32⟩
  | 94 => ⟨S1x96x224x224, .f32⟩
  | 95 => ⟨S1x224x224x96, .f32⟩
  | 96 => ⟨S1x96x224x224, .f32⟩
  | 97 => ⟨S1x96x224x224, .f32⟩
  | 98 => ⟨S96x96x1x1, .f32⟩
  | 99 => ⟨S96x96, .f32⟩
  | 100 => ⟨S1x96x224x224, .f32⟩
  | 101 => ⟨S1x224x224x96, .f32⟩
  | 102 => ⟨S1x96x224x224, .f32⟩
  | 103 => ⟨S1x96x224x224, .f32⟩
  | 104 => ⟨S96x96x1x1, .f32⟩
  | 105 => ⟨S96x96, .f32⟩
  | 106 => ⟨S1x96x224x224, .f32⟩
  | 107 => ⟨S1x224x224x96, .f32⟩
  | 108 => ⟨S1x96x224x224, .f32⟩
  | 109 => ⟨S1x96x224x224, .f32⟩
  | 110 => ⟨S96x96x1x1, .f32⟩
  | 111 => ⟨S96x96, .f32⟩
  | 112 => ⟨S1x96x224x224, .f32⟩
  | 113 => ⟨S1x224x224x96, .f32⟩
  | 114 => ⟨S1x96x224x224, .f32⟩
  | 115 => ⟨S1x96x224x224, .f32⟩
  | 116 => ⟨S96x96x1x1, .f32⟩
  | 117 => ⟨S96x96, .f32⟩
  | 118 => ⟨S1x96x224x224, .f32⟩
  | 119 => ⟨S1x224x224x96, .f32⟩
  | 120 => ⟨S1x96x224x224, .f32⟩
  | 121 => ⟨S1x96x224x224, .f32⟩
  | 122 => ⟨S96x96x1x1, .f32⟩
  | 123 => ⟨S96x96, .f32⟩
  | 124 => ⟨S1x96x224x224, .f32⟩
  | 125 => ⟨S1x224x224x96, .f32⟩
  | 126 => ⟨S1x96x224x224, .f32⟩
  | 127 => ⟨S1x96x224x224, .f32⟩
  | _ => ⟨S1x96x224x224, .f32⟩

abbrev hbmTy0_2 (i : Nat) : BufTy := match i % 128 with
  | 0 => ⟨S96x96x1x1, .f32⟩
  | 1 => ⟨S96x96, .f32⟩
  | 2 => ⟨S1x96x224x224, .f32⟩
  | 3 => ⟨S1x224x224x96, .f32⟩
  | 4 => ⟨S1x96x224x224, .f32⟩
  | 5 => ⟨S1x96x224x224, .f32⟩
  | 6 => ⟨S1x96x1x1, .f32⟩
  | 7 => ⟨S1x96x224x224, .f32⟩
  | 8 => ⟨S1x96x224x224, .f32⟩
  | 9 => ⟨S1x96x224x224, .f32⟩
  | _ => ⟨S1x96x224x224, .f32⟩

abbrev hbmTy (i : Nat) : BufTy := match i / 128 with
  | 0 => hbmTy0_0 i
  | 1 => hbmTy0_1 i
  | 2 => hbmTy0_2 i
  | _ => ⟨S1x96x224x224, .f32⟩

abbrev bufTy : (tb : Table) → Fin (tcTables nBuf tb) → BufTy
  | .hbm, ⟨i, _⟩ => hbmTy i
  | _, _ => ⟨S1x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_1 : Ref sig .tc := ⟨.hbm, 69, rfl⟩
abbrev main_v59 : Ref sig .tc := ⟨.hbm, 70, rfl⟩
abbrev main_v60 : Ref sig .tc := ⟨.hbm, 71, rfl⟩
abbrev main_cst_2 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_values : Ref sig .tc := ⟨.hbm, 79, rfl⟩
abbrev main_indices : Ref sig .tc := ⟨.hbm, 80, rfl⟩
abbrev main_v67 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v68 : Ref sig .tc := ⟨.hbm, 104, rfl⟩
abbrev main_cst_3 : Ref sig .tc := ⟨.hbm, 105, rfl⟩
abbrev main_v69 : Ref sig .tc := ⟨.hbm, 106, rfl⟩
abbrev main_cst_4 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_5 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_6 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_7 : Ref sig .tc := ⟨.hbm, 132, rfl⟩
abbrev main_v92 : Ref sig .tc := ⟨.hbm, 133, rfl⟩
abbrev main_v93 : Ref sig .tc := ⟨.hbm, 134, rfl⟩
abbrev main_c_8 : Ref sig .tc := ⟨.hbm, 135, rfl⟩
abbrev main_call2_v0 : Ref sig .tc := ⟨.hbm, 136, rfl⟩
abbrev main_v94 : Ref sig .tc := ⟨.hbm, 137, rfl⟩
abbrev main_cst_9 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_10 : Ref sig .tc := ⟨.hbm, 201, rfl⟩
abbrev main_v157 : Ref sig .tc := ⟨.hbm, 202, rfl⟩
abbrev main_c_11 : Ref sig .tc := ⟨.hbm, 203, rfl⟩
abbrev main_call3_v0 : Ref sig .tc := ⟨.hbm, 204, rfl⟩
abbrev main_v158 : Ref sig .tc := ⟨.hbm, 205, rfl⟩
abbrev main_cst_12 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩

abbrev nD : Nat := 1
abbrev τ : Topo := Topo.v7x

variable {F : FTy → Type} [FloatOps F]
-- ==== Proof.Route.lean ====
module

public import Idealize.ShloMosaic.Lib.SortFacts
public import Idealize.ShloMosaic.Lib.PlanTiles.StableSort
public import Idealize.ShloMosaic.Lib.Pipeline.ValueKit
public import Idealize.ShloMosaic.Lib.Pointwise

@[expose] public section

noncomputable section

/-! # The routing of one pixel: the two best of eight experts, and their weights -/

namespace Cert.Moe

open Idealize.ShloMosaic

/-! ### The best of a set of experts -/

/-- Expert `i` is the best among the experts `ok` names: its value is the largest, and among equal values its number is the
    smallest. -/
def IsBest (z : Fin 8 → EReal) (ok : Fin 8 → Prop) (i : Fin 8) : Prop :=
  ok i ∧ ∀ j, ok j → z j < z i ∨ (z j = z i ∧ i ≤ j)

/-- There is at most one best expert. -/
theorem IsBest.unique {z : Fin 8 → EReal} {ok : Fin 8 → Prop} {i j : Fin 8} (hi : IsBest z ok i) (hj : IsBest z ok j) :
    i = j := by
  rcases hi.2 j hj.1 with h | ⟨h, h'⟩
  · rcases hj.2 i hi.1 with k | ⟨k, -⟩
    · exact absurd h (not_lt.mpr k.le)
    · exact absurd h (by rw [k]; exact lt_irrefl _)
  · rcases hj.2 i hi.1 with k | ⟨-, k'⟩
    · exact absurd k (by rw [h]; exact lt_irrefl _)
    · exact le_antisymm h' k'

/-- Values in the same strict order have the same best expert. -/
theorem IsBest.transport {z s : Fin 8 → EReal} {ok : Fin 8 → Prop} {i : Fin 8} (hs : ∀ j k, s j < s k ↔ z j < z k)
    (h : IsBest s ok i) : IsBest z ok i := by
  refine ⟨h.1, fun j hj => ?_⟩
  rcases h.2 j hj with k | ⟨k, k'⟩
  · exact Or.inl ((hs j i).mp k)
  · refine Or.inr ⟨le_antisymm (not_lt.mp fun hlt => ?_) (not_lt.mp fun hlt => ?_), k'⟩
    · exact absurd ((hs i j).mpr hlt) (by rw [k]; exact lt_irrefl _)
    · exact absurd ((hs j i).mpr hlt) (by rw [k]; exact lt_irrefl _)

/-! ### A running maximum -/

/-- The running maximum over the first experts, with the number of the expert that holds it: an expert replaces the holder
    when it is allowed and its value is strictly larger. It starts at the bottom of the order, held by number 0. -/
def running (z : ℕ → EReal) (ok : ℕ → Prop) [DecidablePred ok] : ℕ → EReal × BitVec 32
  | 0 => (⊥, 0#32)
  | k + 1 => if (running z ok k).1 < z k ∧ ok k then (z k, BitVec.ofNat 32 k) else running z ok k

/-- The running maximum is still the bottom, and no allowed value was above the bottom, or it is held by the first of the
    largest allowed values. -/
theorem running_spec (z : ℕ → EReal) (ok : ℕ → Prop) [DecidablePred ok] (n : ℕ) :
    ((running z ok n) = (⊥, 0#32) ∧ ∀ j < n, ok j → z j = ⊥)
      ∨ ∃ i < n, ok i ∧ running z ok n = (z i, BitVec.ofNat 32 i) ∧ ∀ j < n, ok j → z j < z i ∨ (z j = z i ∧ i ≤ j) := by
  induction n with
  | zero => exact Or.inl ⟨rfl, fun j hj => absurd hj (Nat.not_lt_zero j)⟩
  | succ n ih =>
    have hs : running z ok (n + 1) = if (running z ok n).1 < z n ∧ ok n then (z n, BitVec.ofNat 32 n) else running z ok n := rfl
    rcases ih with ⟨h1, h2⟩ | ⟨i, hi, hok, h1, h2⟩
    · rw [h1] at hs
      by_cases hc : (⊥ : EReal) < z n ∧ ok n
      · rw [if_pos hc] at hs
        refine Or.inr ⟨n, Nat.lt_succ_self n, hc.2, hs, fun j hj hokj => ?_⟩
        rcases Nat.lt_succ_iff_lt_or_eq.mp hj with hj | rfl
        · exact Or.inl (by rw [h2 j hj hokj]; exact hc.1)
        · exact Or.inr ⟨rfl, le_refl _⟩
      · rw [if_neg hc] at hs
        refine Or.inl ⟨hs, fun j hj hokj => ?_⟩
        rcases Nat.lt_succ_iff_lt_or_eq.mp hj with hj | rfl
        · exact h2 j hj hokj
        · exact le_bot_iff.mp (not_lt.mp fun h => hc ⟨h, hokj⟩)
    · rw [h1] at hs
      by_cases hc : z i < z n ∧ ok n
      · rw [if_pos hc] at hs
        refine Or.inr ⟨n, Nat.lt_succ_self n, hc.2, hs, fun j hj hokj => ?_⟩
        rcases Nat.lt_succ_iff_lt_or_eq.mp hj with hj | rfl
        · rcases h2 j hj hokj with h | ⟨h, -⟩
          · exact Or.inl (h.trans hc.1)
          · exact Or.inl (by rw [h]; exact hc.1)
        · exact Or.inr ⟨rfl, le_refl _⟩
      · rw [if_neg hc] at hs
        refine Or.inr ⟨i, Nat.lt_succ_of_lt hi, hok, hs, fun j hj hokj => ?_⟩
        rcases Nat.lt_succ_iff_lt_or_eq.mp hj with hj | rfl
        · exact h2 j hj hokj
        · rcases lt_or_eq_of_le (not_lt.mp fun h => hc ⟨h, hokj⟩) with h | h
          · exact Or.inl h
          · exact Or.inr ⟨h, hi.le⟩

/-- Over eight values above the bottom, of which at least one is allowed, the running maximum ends at the best expert. -/
theorem running_best (z : ℕ → EReal) (ok : ℕ → Prop) [DecidablePred ok] (hz : ∀ k < 8, z k ≠ ⊥) (hok : ∃ k < 8, ok k) :
    ∃ i : Fin 8, IsBest (fun k => z k.val) (fun k => ok k.val) i ∧ running z ok 8 = (z i.val, BitVec.ofNat 32 i.val) := by
  rcases running_spec z ok 8 with ⟨-, h⟩ | ⟨i, hi, hoki, h1, h2⟩
  · obtain ⟨k, hk, hokk⟩ := hok
    exact absurd (h k hk hokk) (hz k hk)
  · exact ⟨⟨i, hi⟩, ⟨hoki, fun j hj => h2 j.val j.isLt hj⟩, h1⟩

/-! ### A stable sort by decreasing value -/

/-- How many experts have a smaller value. -/
def rank (s : Fin 8 → EReal) (k : Fin 8) : ℕ := (Finset.univ.filter fun j => s j < s k).card

/-- Ranks are in the order of the values. -/
theorem rank_lt_iff (s : Fin 8 → EReal) (a b : Fin 8) : rank s a < rank s b ↔ s a < s b := by
  constructor
  · intro h
    by_contra hn
    refine absurd h (not_lt.mpr (Finset.card_le_card fun j hj => ?_))
    simp only [Finset.mem_filter, Finset.mem_univ, true_and] at hj ⊢
    exact lt_of_lt_of_le hj (not_lt.mp hn)
  · intro h
    refine Finset.card_lt_card (Finset.ssubset_iff_of_subset (fun j hj => ?_) |>.mpr ⟨a, ?_, ?_⟩)
    · simp only [Finset.mem_filter, Finset.mem_univ, true_and] at hj ⊢
      exact hj.trans h
    · simpa using h
    · simp

/-- In a stable sort by decreasing value, an earlier place holds a larger value, or an equal one of a smaller number. -/
theorem sorted_lex (s : Fin 8 → EReal) (R : Fin 8 → Fin 8 → Bool) (hR : ∀ a b, R a b = true ↔ s b < s a) (p q : Fin 8)
    (hpq : p < q) :
    s (sortedFrom R q) < s (sortedFrom R p)
      ∨ (s (sortedFrom R q) = s (sortedFrom R p) ∧ sortedFrom R p < sortedFrom R q) := by
  have hRG : R = fun x y => decide (rank s y < rank s x) := by
    funext a b
    rw [Bool.eq_iff_iff, hR, decide_eq_true_iff, rank_lt_iff]
  have hpw : (sortPositions 8 R).Pairwise (PlanTiles.Lex (rank s) (· < ·)) := by
    rw [hRG]
    exact PlanTiles.pairwise_stableSort_lex (rank s) (· < ·) (List.finRange 8) (List.pairwise_lt_finRange 8)
  have h := List.pairwise_iff_get.mp hpw (Fin.cast (length_sortPositions 8 R).symm p) (Fin.cast (length_sortPositions 8 R).symm q) hpq
  rcases h with h | ⟨h, h'⟩
  · exact Or.inl ((rank_lt_iff s _ _).mp h)
  · refine Or.inr ⟨le_antisymm (not_lt.mp fun hlt => ?_) (not_lt.mp fun hlt => ?_), h'⟩
    · exact absurd ((rank_lt_iff s _ _).mpr hlt) (by unfold sortedFrom; rw [h]; exact lt_irrefl _)
    · exact absurd ((rank_lt_iff s _ _).mpr hlt) (by unfold sortedFrom; rw [h]; exact lt_irrefl _)

/-- The first place of the sort holds the best expert. -/
theorem sorted_first (s : Fin 8 → EReal) (R : Fin 8 → Fin 8 → Bool) (hR : ∀ a b, R a b = true ↔ s b < s a) :
    IsBest s (fun _ => True) (sortedFrom R 0) := by
  refine ⟨trivial, fun j _ => ?_⟩
  obtain ⟨q, rfl⟩ := sortedFrom_surjective R j
  rcases eq_or_ne q 0 with rfl | hq
  · exact Or.inr ⟨rfl, le_refl _⟩
  · rcases sorted_lex s R hR 0 q (Fin.pos_iff_ne_zero.mpr hq) with h | ⟨h, h'⟩
    · exact Or.inl h
    · exact Or.inr ⟨h, h'.le⟩

/-- The second place of the sort holds the best expert but the first. -/
theorem sorted_second (s : Fin 8 → EReal) (R : Fin 8 → Fin 8 → Bool) (hR : ∀ a b, R a b = true ↔ s b < s a) :
    IsBest s (fun k => k ≠ sortedFrom R 0) (sortedFrom R 1) := by
  refine ⟨fun h => absurd (sortedFrom_injective R h) (by decide), fun j hj => ?_⟩
  obtain ⟨q, rfl⟩ := sortedFrom_surjective R j
  have h0 : q ≠ 0 := fun h => hj (by rw [h])
  by_cases h1 : q = 1
  · subst h1; exact Or.inr ⟨rfl, le_refl _⟩
  · have hq : (1 : Fin 8) < q := by
      rw [Fin.lt_def]
      have a0 : q.val ≠ 0 := fun h => h0 (Fin.ext h)
      have a1 : q.val ≠ 1 := fun h => h1 (Fin.ext h)
      show 1 < q.val
      omega
    rcases sorted_lex s R hR 1 q hq with h | ⟨h, h'⟩
    · exact Or.inl h
    · exact Or.inr ⟨h, h'.le⟩

/-! ### The sigmoid and the softmax of two -/

/-- The sigmoid. -/
def sigm (t : ℝ) : ℝ := 1 / (1 + Real.exp (-t))

/-- The sigmoid is strictly increasing. -/
theorem sigm_lt_iff (a b : ℝ) : sigm a < sigm b ↔ a < b := by
  have key : ∀ x y : ℝ, x < y → sigm x < sigm y := fun x y h => by
    unfold sigm
    have h1 : Real.exp (-y) < Real.exp (-x) := Real.exp_lt_exp.mpr (by linarith)
    have h2 := Real.exp_pos (-y)
    exact one_div_lt_one_div_of_lt (by linarith) (by linarith)
  refine ⟨fun h => ?_, key a b⟩
  by_contra hn
  rcases lt_or_eq_of_le (not_lt.mp hn) with h' | h'
  · exact absurd h (not_lt.mpr (key b a h').le)
  · rw [h'] at h; exact lt_irrefl _ h

/-- The share of the first of two scores. -/
def share (s₁ s₂ : ℝ) : ℝ := 1 / (1 + Real.exp (s₂ - s₁))

/-- A share is not negative, -/
theorem share_nonneg (s₁ s₂ : ℝ) : 0 ≤ share s₁ s₂ := by unfold share; positivity

/-- and not above one. -/
theorem share_le_one (s₁ s₂ : ℝ) : share s₁ s₂ ≤ 1 := by
  unfold share
  have := Real.exp_pos (s₂ - s₁)
  rw [div_le_one (by linarith)]; linarith

/-- One over one plus an exponential, of a real. -/
theorem div_one_add_exp (t : ℝ) : Ideal.div 1 (1 + Ideal.exp (t : EReal)) = ((1 / (1 + Real.exp t) : ℝ) : EReal) := by
  have := Real.exp_pos t
  rw [Ideal.exp_coe, ← EReal.coe_one, ← EReal.coe_add, Ideal.div_coe (by linarith), ← EReal.coe_mul, one_mul]

/-- The first share of a softmax of two, whatever real is subtracted from both scores. -/
theorem softmax_first (s₁ s₂ M : ℝ) :
    Ideal.div (Ideal.exp ((s₁ : EReal) - M)) (Ideal.exp ((s₁ : EReal) - M) + Ideal.exp ((s₂ : EReal) - M))
      = (share s₁ s₂ : EReal) := by
  have h1 := Real.exp_pos (s₁ - M)
  have h2 := Real.exp_pos (s₂ - M)
  rw [← EReal.coe_sub, ← EReal.coe_sub, Ideal.exp_coe, Ideal.exp_coe, ← EReal.coe_add, Ideal.div_coe (by linarith),
    ← EReal.coe_mul]
  congr 1
  unfold share
  have hE : Real.exp (s₂ - s₁) = Real.exp (s₂ - M) / Real.exp (s₁ - M) := by
    rw [← Real.exp_sub]; congr 1; ring
  rw [hE]
  generalize Real.exp (s₁ - M) = x at h1 ⊢
  generalize Real.exp (s₂ - M) = y at h2 ⊢
  field_simp

/-- The second share of a softmax of two. -/
theorem softmax_second (s₁ s₂ M : ℝ) :
    Ideal.div (Ideal.exp ((s₂ : EReal) - M)) (Ideal.exp ((s₁ : EReal) - M) + Ideal.exp ((s₂ : EReal) - M))
      = ((1 - share s₁ s₂ : ℝ) : EReal) := by
  have h1 := Real.exp_pos (s₁ - M)
  have h2 := Real.exp_pos (s₂ - M)
  rw [← EReal.coe_sub, ← EReal.coe_sub, Ideal.exp_coe, Ideal.exp_coe, ← EReal.coe_add, Ideal.div_coe (by linarith),
    ← EReal.coe_mul]
  congr 1
  unfold share
  have hE : Real.exp (s₂ - s₁) = Real.exp (s₂ - M) / Real.exp (s₁ - M) := by
    rw [← Real.exp_sub]; congr 1; ring
  rw [hE]
  generalize Real.exp (s₁ - M) = x at h1 ⊢
  generalize Real.exp (s₂ - M) = y at h2 ⊢
  field_simp
  ring

/-! ### The weighted sum -/

/-- The weight of expert `e` when `i₁` and `i₂` are the two chosen experts with scores `sigm t₁` and `sigm t₂`. -/
def weight (i₁ i₂ : Fin 8) (t₁ t₂ : ℝ) (e : Fin 8) : ℝ :=
  (if e = i₁ then share (sigm t₁) (sigm t₂) else 0) + (if e = i₂ then 1 - share (sigm t₁) (sigm t₂) else 0)

/-- A weight is not negative. -/
theorem weight_nonneg (i₁ i₂ : Fin 8) (t₁ t₂ : ℝ) (e : Fin 8) : 0 ≤ weight i₁ i₂ t₁ t₂ e := by
  have h1 := share_nonneg (sigm t₁) (sigm t₂)
  have h2 := share_le_one (sigm t₁) (sigm t₂)
  unfold weight
  split <;> split <;> linarith

/-- A sum scaled by a non-negative real is the sum of the scaled terms, at infinities too. -/
theorem add_mul_real (a b : EReal) (w : ℝ) (hw : 0 ≤ w) : (a + b) * (w : EReal) = a * w + b * w := by
  rw [mul_comm, EReal.left_distrib_of_nonneg_of_ne_top (EReal.coe_nonneg.mpr hw) (EReal.coe_ne_top w), mul_comm (w : EReal) a,
    mul_comm (w : EReal) b]

/-- The experts' results with the biases inside the weighted sum, and with the biases weighted apart. -/
theorem mix (s b₀ : EReal) (a b : Fin 8 → EReal) (w : Fin 8 → ℝ) (hw : ∀ e, 0 ≤ w e) :
    s + (∑ e, a e * (w e : EReal)) + (∑ e, b e * (w e : EReal)) + b₀ = (∑ e, (a e + b e) * (w e : EReal)) + (s + b₀) := by
  have h : ∑ e, (a e + b e) * (w e : EReal) = (∑ e, a e * (w e : EReal)) + ∑ e, b e * (w e : EReal) := by
    rw [← Finset.sum_add_distrib]
    exact Finset.sum_congr rfl fun e _ => add_mul_real _ _ _ (hw e)
  rw [h]
  abel

end Cert.Moe

end
-- ==== Proof.Spec.lean ====
module

public import proofs.«01_k».proof.Proof.Route

@[expose] public section

noncomputable section

/-! # What one entry of the result is -/

namespace Cert.Moe

open Idealize.ShloMosaic

/-- The image with a border of zeros of width one: row `r` and column `k` count the border. -/
def padded (X : Fin 96 → Fin 224 → Fin 224 → EReal) (ci : Fin 96) (r k : ℕ) : EReal :=
  if h : (1 ≤ r ∧ r ≤ 224) ∧ (1 ≤ k ∧ k ≤ 224) then X ci ⟨r - 1, by omega⟩ ⟨k - 1, by omega⟩ else 0

/-- The 3×3 convolution of an image with one output channel's weights, at row `h` and column `w`. -/
def conv (X : Fin 96 → Fin 224 → Fin 224 → EReal) (K : Fin 96 → Fin 3 → Fin 3 → EReal) (h w : Fin 224) : EReal :=
  ∑ dy : Fin 3, ∑ dx : Fin 3, ∑ ci : Fin 96, K ci dy dx * padded X ci (h.val + dy.val) (w.val + dx.val)

/-- The padding of an image of reals is an image of reals. -/
theorem padded_real (X : Fin 96 → Fin 224 → Fin 224 → EReal) (hX : ∀ ci h w, ∃ x : ℝ, X ci h w = x) (ci : Fin 96) (r k : ℕ) :
    ∃ x : ℝ, padded X ci r k = x := by
  unfold padded
  split
  · exact hX _ _ _
  · exact ⟨0, rfl⟩

/-- A finite sum of reals is a real. -/
theorem sum_real {ι : Type} [Fintype ι] (f : ι → EReal) (hf : ∀ i, ∃ x : ℝ, f i = x) : ∃ x : ℝ, ∑ i, f i = x := by
  classical
  induction (Finset.univ : Finset ι) using Finset.induction_on with
  | empty => exact ⟨0, by simp⟩
  | insert a s ha ih =>
    obtain ⟨x, hx⟩ := hf a
    obtain ⟨y, hy⟩ := ih
    exact ⟨x + y, by rw [Finset.sum_insert ha, hx, hy, EReal.coe_add]⟩

/-- The convolution of an image of reals with real weights is a real. -/
theorem conv_real (X : Fin 96 → Fin 224 → Fin 224 → EReal) (K : Fin 96 → Fin 3 → Fin 3 → EReal) (h w : Fin 224)
    (hX : ∀ ci h w, ∃ x : ℝ, X ci h w = x) (hK : ∀ ci dy dx, ∃ x : ℝ, K ci dy dx = x) : ∃ x : ℝ, conv X K h w = x := by
  refine sum_real _ fun dy => sum_real _ fun dx => sum_real _ fun ci => ?_
  obtain ⟨a, ha⟩ := hK ci dy dx
  obtain ⟨b, hb⟩ := padded_real X hX ci (h.val + dy.val) (w.val + dx.val)
  exact ⟨a * b, by rw [ha, hb, EReal.coe_mul]⟩

/-- `r` is the result's entry of a pixel, given the logits `z`, the experts' convolutions `a` and biases `b`, and the
    shared convolution `s` and bias `b₀`: the two best experts' results, biases included, weighted by the softmax of their
    scores, plus the shared result. -/
def IsEntry (z : Fin 8 → EReal) (a b : Fin 8 → EReal) (s b₀ r : EReal) : Prop :=
  ∃ (t : Fin 8 → ℝ) (i₁ i₂ : Fin 8), (∀ e, z e = t e) ∧ IsBest z (fun _ => True) i₁ ∧ IsBest z (fun k => k ≠ i₁) i₂
    ∧ r = (∑ e, (a e + b e) * (weight i₁ i₂ (t i₁) (t i₂) e : EReal)) + (s + b₀)

/-- A pixel has one entry. -/
theorem IsEntry.unique {z a b : Fin 8 → EReal} {s b₀ r r' : EReal} (h : IsEntry z a b s b₀ r) (h' : IsEntry z a b s b₀ r') :
    r = r' := by
  obtain ⟨t, i₁, i₂, ht, h1, h2, rfl⟩ := h
  obtain ⟨t', j₁, j₂, ht', k1, k2, rfl⟩ := h'
  have htt : t = t' := funext fun e => EReal.coe_injective ((ht e).symm.trans (ht' e))
  obtain rfl := h1.unique k1
  obtain rfl := h2.unique k2
  rw [htt]

end Cert.Moe

end
-- ==== Proof.KernelConv.lean ====
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Moe

open Idealize.ShloMosaic Idealize.ShloMosaic.TcCoe Idealize.SL.Sem
open Cert.KernelIdeal Cert.KernelIdeal.Gen

/-- Nine blocks of 96 rows stacked. -/
def stack (f : Fin 9 → FVec Ideal S96x4096 .bf16) : FVec Ideal S864x4096 .bf16 :=
  concatenate S864x4096 0
    [⟨S96x4096, f 0⟩, ⟨S96x4096, f 1⟩, ⟨S96x4096, f 2⟩, ⟨S96x4096, f 3⟩, ⟨S96x4096, f 4⟩, ⟨S96x4096, f 5⟩,
     ⟨S96x4096, f 6⟩, ⟨S96x4096, f 7⟩, ⟨S96x4096, f 8⟩]
    Facts₀.concatenates_S96x4096_S96x4096_S96x4096_S96x4096_S96x4096_S96x4096_S96x4096_S96x4096_S96x4096_S864x4096_d0

/-- Nine windows stacked, read at a row: the row of its window. -/
theorem stack_apply (f : Fin 9 → FVec Ideal S96x4096 .bf16) (q : Fin 9) (ci : Fin 96) (p : Fin 4096) :
    stack f (ix2 ⟨96 * q.val + ci.val, by omega⟩ p) = f q (ix2 ci p) := by
  refine concatenate_apply_piece (t := S864x4096) 0 _ _ _ q.val ?_ S96x4096 (f q) ?_ rfl (96 * q.val) ?_ (ix2 ci p) (fun b hb => ?_) rfl
  · exact q.isLt
  · fin_cases q <;> rfl
  · fin_cases q <;> rfl
  · fin_cases b
    · exact absurd rfl hb
    · rfl

/-- The block of tap `q`. -/
def tap (v : FVec Ideal S96x4864 .bf16) : Fin 9 → FVec Ideal S96x4096 .bf16 :=
  let a : FVec Ideal S96x4608 .bf16 := extractStridedSlice S96x4608 ![0, 127] v Facts₀.slices_S96x4864_o0_127_S96x4608
  let b : FVec Ideal S96x4608 .bf16 := extractStridedSlice S96x4608 ![0, 128] v Facts₀.slices_S96x4864_o0_128_S96x4608
  let d : FVec Ideal S96x4608 .bf16 := extractStridedSlice S96x4608 ![0, 129] v Facts₀.slices_S96x4864_o0_129_S96x4608
  ![extractStridedSlice S96x4096 ![0, 0] a Facts₀.slices_S96x4608_o0_0_S96x4096,
    extractStridedSlice S96x4096 ![0, 0] b Facts₀.slices_S96x4608_o0_0_S96x4096,
    extractStridedSlice S96x4096 ![0, 0] d Facts₀.slices_S96x4608_o0_0_S96x4096,
    extractStridedSlice S96x4096 ![0, 256] a Facts₀.slices_S96x4608_o0_256_S96x4096,
    extractStridedSlice S96x4096 ![0, 256] b Facts₀.slices_S96x4608_o0_256_S96x4096,
    extractStridedSlice S96x4096 ![0, 256] d Facts₀.slices_S96x4608_o0_256_S96x4096,
    extractStridedSlice S96x4096 ![0, 512] a Facts₀.slices_S96x4608_o0_512_S96x4096,
    extractStridedSlice S96x4096 ![0, 512] b Facts₀.slices_S96x4608_o0_512_S96x4096,
    extractStridedSlice S96x4096 ![0, 512] d Facts₀.slices_S96x4608_o0_512_S96x4096]

/-- The entry of tap `(dy, dx)`. -/
theorem tap_apply (v : FVec Ideal S96x4864 .bf16) (dy dx : Fin 3) (ci : Fin 96) (p : Fin 4096) :
    tap v ⟨3 * dy.val + dx.val, by omega⟩ (ix2 ci p)
      = v (ix2 ci ⟨127 + 256 * dy.val + dx.val + p.val, by omega⟩) := by
  fin_cases dy <;> fin_cases dx <;>
  (refine congrArg v (funext fun b => ?_); fin_cases b) <;> (apply Fin.ext; simp [ix2]; try omega)

/-- A sum over the 864 rows of a patch, as the sum over the taps and the channels. -/
theorem sum_taps (f : Fin 864 → EReal) :
    ∑ k : Fin 864, f k = ∑ dy : Fin 3, ∑ dx : Fin 3, ∑ ci : Fin 96, f ⟨96 * (3 * dy.val + dx.val) + ci.val, by omega⟩ := by
  have h1 : ∑ k : Fin 864, f k = ∑ q : Fin 9, ∑ ci : Fin 96, f ⟨96 * q.val + ci.val, by omega⟩ := by
    rw [← Fintype.sum_prod_type', ← (finProdFinEquiv (m := 9) (n := 96)).sum_comp]
    refine Finset.sum_congr rfl fun x _ => congrArg f (Fin.ext ?_)
    simp [finProdFinEquiv]; omega
  have h2 (g : Fin 9 → EReal) : ∑ q : Fin 9, g q = ∑ dy : Fin 3, ∑ dx : Fin 3, g ⟨3 * dy.val + dx.val, by omega⟩ := by
    rw [← Fintype.sum_prod_type', ← (finProdFinEquiv (m := 3) (n := 3)).sum_comp]
    refine Finset.sum_congr rfl fun x _ => congrArg g (Fin.ext ?_)
    simp [finProdFinEquiv]; omega
  rw [h1, h2]

/-- The 3×3 convolution at flat position `p` of a window `v` (channels by flat positions, 256 to an image row), with the
    864 weights `w` in the order row tap, column tap, channel. -/
def taps (w : Fin 864 → EReal) (v : Fin 96 → Fin 4864 → EReal) (p : Fin 4096) : EReal :=
  ∑ dy : Fin 3, ∑ dx : Fin 3, ∑ ci : Fin 96,
    w ⟨96 * (3 * dy.val + dx.val) + ci.val, by omega⟩ * v ci ⟨127 + 256 * dy.val + dx.val + p.val, by omega⟩

/-- The product of 880 rows of weights with the patches. -/
theorem wall_matmul (w : FVec Ideal S880x864 .bf16) (s : FVec Ideal S864x4096 .bf16) (r : Fin 880) (p : Fin 4096) :
    matmul dot_S880x864_S864x4096_S880x4096_1_0_0_1_n_n none w s (constant S880x4096 .f32 0x00000000#32) (ix2 r p)
      = ∑ k : Fin 864, (w (ix2 r k) : EReal) * s (ix2 k p) := by
  pointwise

/-- The product of 16 rows of weights with the patches. -/
theorem gate_matmul (w : FVec Ideal S16x864 .bf16) (s : FVec Ideal S864x4096 .bf16) (r : Fin 16) (p : Fin 4096) :
    matmul dot_S16x864_S864x4096_S16x4096_1_0_0_1_n_n none w s (constant S16x4096 .f32 0x00000000#32) (ix2 r p)
      = ∑ k : Fin 864, (w (ix2 r k) : EReal) * s (ix2 k p) := by
  pointwise

/-- A row of weights against the patches of a window is the convolution of the window. -/
theorem sum_stack_tap (w : Fin 864 → EReal) (v : FVec Ideal S96x4864 .bf16) (p : Fin 4096) :
    ∑ k : Fin 864, w k * stack (tap v) (ix2 k p) = taps w (fun ci q => v (ix2 ci q)) p := by
  rw [sum_taps]
  refine Finset.sum_congr rfl fun dy _ => Finset.sum_congr rfl fun dx _ => Finset.sum_congr rfl fun ci _ =>
    congrArg (w _ * ·) ?_
  exact (stack_apply (tap v) ⟨3 * dy.val + dx.val, by omega⟩ ci p).trans (tap_apply v dy dx ci p)

/-- The entries of the big product: row `r` of the weights convolved with the window. -/
theorem pay1_apply (v4 : Vec Ideal S96x4864 .bf16) (v35 : Vec Ideal S880x864 .bf16) (r : Fin 880) (p : Fin 4096) :
    k0_pay1 (F := Ideal) v4 v35 (ix2 r p) = taps (fun k => v35 (ix2 r k)) (fun ci q => v4 (ix2 ci q)) p := by
  have h : k0_pay1 (F := Ideal) v4 v35
      = matmul dot_S880x864_S864x4096_S880x4096_1_0_0_1_n_n none (shapeCast S880x864 v35 Facts₀.shapeCasts_S880x864_S880x864 : FVec Ideal S880x864 .bf16)
        (stack (tap (shapeCast S96x4864 v4 Facts₀.shapeCasts_S96x4864_S96x4864))) (constant S880x4096 .f32 0x00000000#32) := rfl
  rw [h, shapeCast_self, shapeCast_self, wall_matmul]
  exact sum_stack_tap _ _ _

/-- The gate logits: the rows of the high and of the low parts of the weights, each against the high and the low window. -/
theorem pay2_apply (v4 v7 : Vec Ideal S96x4864 .bf16) (v35 : Vec Ideal S880x864 .bf16) (v38 : Vec Ideal S16x864 .bf16)
    (e : Fin 8) (p : Fin 4096) :
    k0_pay2 (F := Ideal) v4 v7 v35 v38 (ix2 e p)
      = taps (fun k => v35 (ix2 ⟨864 + e.val, by omega⟩ k)) (fun ci q => v4 (ix2 ci q)) p
        + taps (fun k => v35 (ix2 ⟨872 + e.val, by omega⟩ k)) (fun ci q => v4 (ix2 ci q)) p
        + taps (fun k => v38 (ix2 ⟨e.val, by omega⟩ k)) (fun ci q => v7 (ix2 ci q)) p
        + taps (fun k => v38 (ix2 ⟨8 + e.val, by omega⟩ k)) (fun ci q => v7 (ix2 ci q)) p := by
  have h : k0_pay2 (F := Ideal) v4 v7 v35 v38
      = addf (addf (addf
          (extractStridedSlice S8x4096 ![864, 0] (k0_pay1 v4 v35) Facts₀.slices_S880x4096_o864_0_S8x4096)
          (extractStridedSlice S8x4096 ![872, 0] (k0_pay1 v4 v35) Facts₀.slices_S880x4096_o872_0_S8x4096))
          (extractStridedSlice S8x4096 ![0, 0]
            (matmul dot_S16x864_S864x4096_S16x4096_1_0_0_1_n_n none (shapeCast S16x864 v38 Facts₀.shapeCasts_S16x864_S16x864 : FVec Ideal S16x864 .bf16)
              (stack (tap (shapeCast S96x4864 v7 Facts₀.shapeCasts_S96x4864_S96x4864))) (constant S16x4096 .f32 0x00000000#32))
            Facts₀.slices_S16x4096_o0_0_S8x4096))
          (extractStridedSlice S8x4096 ![8, 0]
            (matmul dot_S16x864_S864x4096_S16x4096_1_0_0_1_n_n none (shapeCast S16x864 v38 Facts₀.shapeCasts_S16x864_S16x864 : FVec Ideal S16x864 .bf16)
              (stack (tap (shapeCast S96x4864 v7 Facts₀.shapeCasts_S96x4864_S96x4864))) (constant S16x4096 .f32 0x00000000#32))
            Facts₀.slices_S16x4096_o8_0_S8x4096) := rfl
  rw [h, shapeCast_self, shapeCast_self]
  have h1 := fun r : Fin 880 => pay1_apply v4 v35 r p
  have h2 : ∀ r : Fin 16, matmul dot_S16x864_S864x4096_S16x4096_1_0_0_1_n_n none (v38 : FVec Ideal S16x864 .bf16)
      (stack (tap v7)) (constant S16x4096 .f32 0x00000000#32) (ix2 r p)
      = taps (fun k => v38 (ix2 r k)) (fun ci q => v7 (ix2 ci q)) p := fun r =>
    (gate_matmul v38 (stack (tap v7)) r p).trans (sum_stack_tap _ _ _)
  revert h1 h2
  generalize k0_pay1 (F := Ideal) v4 v35 = a
  generalize matmul dot_S16x864_S864x4096_S16x4096_1_0_0_1_n_n none (v38 : FVec Ideal S16x864 .bf16)
      (stack (tap v7)) (constant S16x4096 .f32 0x00000000#32) = b
  intro h1 h2
  rw [← h1, ← h1, ← h2, ← h2]
  pointwise

end Cert.KernelIdeal.Moe

end
-- ==== Proof.KernelRoute.lean ====
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Route

@[expose] public section

set_option maxRecDepth 16384

noncomputable section

namespace Cert.KernelIdeal.Moe

open Idealize.ShloMosaic Idealize.ShloMosaic.TcCoe Idealize.SL.Sem
open Cert.KernelIdeal Cert.KernelIdeal.Gen Cert.Moe

/-! # The routing of one pixel in the kernel -/

/-- The mask constant is the bottom of the order. -/
theorem mask_eq : (Named.named (F := Ideal) κ "mask" (φ := .f32) 0xF149F2CA#32 : EReal) = ⊥ := rfl

/-- The logits of a column, by the expert's number. -/
def col (v : FVec Ideal S8x4096 .f32) (p : Fin 4096) (k : ℕ) : EReal := v (ix2 (Fin.ofNat 8 k) p)

/-- Every expert is allowed. -/
def anyone : ℕ → Prop := fun _ => True

/-- This is decided. -/
instance : DecidablePred anyone := fun _ => isTrue trivial

/-- Every expert is allowed but the one of number `w`. -/
def butOne (w : BitVec 32) : ℕ → Prop := fun k => w ≠ BitVec.ofNat 32 k

/-- This is decided by comparing the numbers. -/
instance (w : BitVec 32) : DecidablePred (butOne w) := fun k => inferInstanceAs (Decidable (w ≠ BitVec.ofNat 32 k))

/-- The running choice as the kernel computes it, from a first maximum `m`: `bit k` tells from the maximum so far whether
    expert `k` replaces the holder. -/
def replacing (z : ℕ → EReal) (bit : ℕ → EReal → BitVec 1) (m : EReal) : ℕ → EReal × BitVec 32
  | 0 => (m, 0#32)
  | k + 1 => (Scalar.select (bit k (replacing z bit m k).1) (z k) (replacing z bit m k).1,
      Scalar.select (bit k (replacing z bit m k).1) (BitVec.ofNat 32 k) (replacing z bit m k).2)

/-- It is the running maximum over the allowed experts, when the bits say «larger and allowed». -/
theorem replacing_eq (z : ℕ → EReal) (bit : ℕ → EReal → BitVec 1) (ok : ℕ → Prop) [DecidablePred ok]
    (hbit : ∀ k m, bit k m = BitVec.ofBool (decide (m < z k ∧ ok k))) (n : ℕ) : replacing z bit ⊥ n = running z ok n := by
  induction n with
  | zero => rfl
  | succ n ih =>
    unfold replacing running
    rw [ih, hbit]
    by_cases h : (running z ok n).1 < z n ∧ ok n <;> simp [h, Scalar.select]

/-- A strict comparison, as a bit. -/
theorem gt_bit (a b : EReal) : FloatOps.cmpf (F := Ideal) (φ := .f32) .ogt a b = BitVec.ofBool (decide (b < a)) := by
  pointwise

/-- A strict comparison when everyone is allowed. -/
theorem bit_anyone (a b : EReal) (k : ℕ) :
    FloatOps.cmpf (F := Ideal) (φ := .f32) .ogt a b = BitVec.ofBool (decide (b < a ∧ anyone k)) := by
  rw [gt_bit]; congr 1; simp [anyone]

/-- A strict comparison together with the exclusion of one expert. -/
theorem bit_butOne (a b : EReal) (w : BitVec 32) (k : ℕ) :
    IntOp.andi (FloatOps.cmpf (F := Ideal) (φ := .f32) .ogt a b) (IntOp.cmpi .ne w (BitVec.ofNat 32 k))
      = BitVec.ofBool (decide (b < a ∧ butOne w k)) := by
  rw [gt_bit]
  by_cases h2 : w = BitVec.ofNat 32 k
  · by_cases h1 : b < a <;> simp [h1, h2, butOne, IntOp.andi, IntOp.cmpi]
  · have h3 : (w != BitVec.ofNat 32 k) = true := bne_iff_ne.mpr h2
    by_cases h1 : b < a <;> simp [h1, h2, h3, butOne, IntOp.andi, IntOp.cmpi]

section rows
variable (v : FVec Ideal S8x4096 .f32) (p : Fin 4096)

/-- The logits of a column as the kernel takes them, one row of the matrix for each expert. -/
def row (v : FVec Ideal S8x4096 .f32) (p : Fin 4096) : ℕ → EReal
  | 0 => k0_pay4 (F := Ideal) v (ix2 0 p)
  | 1 => k0_pay7 (F := Ideal) v (ix2 0 p)
  | 2 => k0_pay10 (F := Ideal) v (ix2 0 p)
  | 3 => k0_pay13 (F := Ideal) v (ix2 0 p)
  | 4 => k0_pay16 (F := Ideal) v (ix2 0 p)
  | 5 => k0_pay19 (F := Ideal) v (ix2 0 p)
  | 6 => k0_pay22 (F := Ideal) v (ix2 0 p)
  | 7 => k0_pay25 (F := Ideal) v (ix2 0 p)
  | k => col v p k

/-- A row's entry is the expert's logit. -/
theorem row_eq : row v p = col v p := by
  funext k
  unfold row
  split
  all_goals first
    | rfl
    | (pointwise [k0_pay4, k0_pay7, k0_pay10, k0_pay13, k0_pay16, k0_pay19, k0_pay22, k0_pay25, col]; rfl)

end rows

/-! ### The largest logit -/

section first
variable (v : FVec Ideal S8x4096 .f32) (p : Fin 4096)

/-- The kernel's first eight comparisons. -/
def first (n : ℕ) : EReal × BitVec 32 :=
  replacing (row v p) (fun k m => FloatOps.cmpf (F := Ideal) (φ := .f32) .ogt (row v p k) m) ⊥ n

/-- They find the largest logit. -/
theorem first_eq (n : ℕ) : first v p n = running (col v p) anyone n := by
  unfold first
  rw [row_eq]
  exact replacing_eq (col v p) _ _ (fun k m => bit_anyone (col v p k) m k) n

/-- The largest logit. -/
theorem first_top : k0_pay27 (F := Ideal) v ⊥ (ix2 0 p) = (running (col v p) anyone 8).1 :=
  (show k0_pay27 (F := Ideal) v ⊥ (ix2 0 p) = (first v p 8).1 from rfl).trans (congrArg Prod.fst (first_eq v p 8))

/-- The number of the expert with the largest logit. -/
theorem first_index : k0_pay28 (F := Ideal) v ⊥ (ix2 0 p) = (running (col v p) anyone 8).2 :=
  (show k0_pay28 (F := Ideal) v ⊥ (ix2 0 p) = (first v p 8).2 from rfl).trans (congrArg Prod.snd (first_eq v p 8))

end first

/-! ### The largest logit but one expert's -/

section second
variable (v : FVec Ideal S8x4096 .f32) (u : IVec S1x4096 32) (b : FVec Ideal S1x4096 .f32) (p : Fin 4096)

/-- The comparison of the first expert. -/
def bit93 : IVec S1x4096 1 := cmpf .ogt (k0_pay31 v) b

/-- Whether the first expert is allowed. -/
def bit95 : IVec S1x4096 1 := cmpi .ne u (broadcast S1x4096 0#32)

/-- The kernel's second eight comparisons: the expert numbered `u` is left out. -/
def second (n : ℕ) : EReal × BitVec 32 :=
  replacing (row v p) (fun k m => IntOp.andi (FloatOps.cmpf (F := Ideal) (φ := .f32) .ogt (row v p k) m)
    (IntOp.cmpi .ne (u (ix2 0 p)) (BitVec.ofNat 32 k))) (b (ix2 0 p)) n

/-- They find the largest of the other logits. -/
theorem second_eq (hb : b (ix2 0 p) = (⊥ : EReal)) (n : ℕ) : second v u b p n = running (col v p) (butOne (u (ix2 0 p))) n := by
  unfold second
  rw [row_eq, hb]
  exact replacing_eq (col v p) _ _ (fun k m => bit_butOne (col v p k) m (u (ix2 0 p)) k) n

/-- The second largest logit. -/
theorem second_top (hb : b (ix2 0 p) = (⊥ : EReal)) :
    Scalar.select (k0_pay58 (F := Ideal) v u (k0_pay50 v u b (k0_pay31 v) (bit93 v b) (bit95 u)) (k0_pay52 v) (k0_pay53 v u b (k0_pay31 v) (bit93 v b) (bit95 u)) (k0_pay54 u) (ix2 0 p))
        (k0_pay57 (F := Ideal) v (ix2 0 p)) (k0_pay56 (F := Ideal) (k0_pay50 v u b (k0_pay31 v) (bit93 v b) (bit95 u)) (k0_pay52 v) (k0_pay53 v u b (k0_pay31 v) (bit93 v b) (bit95 u)) (k0_pay54 u) (ix2 0 p))
      = (running (col v p) (butOne (u (ix2 0 p))) 8).1 :=
  (show Scalar.select (k0_pay58 (F := Ideal) v u (k0_pay50 v u b (k0_pay31 v) (bit93 v b) (bit95 u)) (k0_pay52 v) (k0_pay53 v u b (k0_pay31 v) (bit93 v b) (bit95 u)) (k0_pay54 u) (ix2 0 p))
        (k0_pay57 (F := Ideal) v (ix2 0 p)) (k0_pay56 (F := Ideal) (k0_pay50 v u b (k0_pay31 v) (bit93 v b) (bit95 u)) (k0_pay52 v) (k0_pay53 v u b (k0_pay31 v) (bit93 v b) (bit95 u)) (k0_pay54 u) (ix2 0 p))
      = (second v u b p 8).1 from rfl).trans (congrArg Prod.fst (second_eq v u b p hb 8))

/-- The number of the expert with the second largest logit. -/
theorem second_index (hb : b (ix2 0 p) = (⊥ : EReal)) :
    Scalar.select (k0_pay58 (F := Ideal) v u (k0_pay50 v u b (k0_pay31 v) (bit93 v b) (bit95 u)) (k0_pay52 v) (k0_pay53 v u b (k0_pay31 v) (bit93 v b) (bit95 u)) (k0_pay54 u) (ix2 0 p)) 7#32
        (Scalar.select (k0_pay55 (k0_pay53 v u b (k0_pay31 v) (bit93 v b) (bit95 u)) (k0_pay54 u) (ix2 0 p)) 6#32
          ((k0_pay51 v u b k0_pay30 (k0_pay31 v) (bit93 v b) (bit95 u)) (ix2 0 p)))
      = (running (col v p) (butOne (u (ix2 0 p))) 8).2 :=
  (show Scalar.select (k0_pay58 (F := Ideal) v u (k0_pay50 v u b (k0_pay31 v) (bit93 v b) (bit95 u)) (k0_pay52 v) (k0_pay53 v u b (k0_pay31 v) (bit93 v b) (bit95 u)) (k0_pay54 u) (ix2 0 p)) 7#32
        (Scalar.select (k0_pay55 (k0_pay53 v u b (k0_pay31 v) (bit93 v b) (bit95 u)) (k0_pay54 u) (ix2 0 p)) 6#32
          ((k0_pay51 v u b k0_pay30 (k0_pay31 v) (bit93 v b) (bit95 u)) (ix2 0 p)))
      = (second v u b p 8).2 from rfl).trans (congrArg Prod.snd (second_eq v u b p hb 8))

end second

/-! ### The weights -/

/-- Two experts' numbers compared. -/
theorem select_eq (e i : Fin 8) (x y : EReal) :
    Scalar.select (IntOp.cmpi .eq (BitVec.ofNat 32 e.val) (BitVec.ofNat 32 i.val)) x y = if e = i then x else y := by
  have h : IntOp.cmpi .eq (BitVec.ofNat 32 e.val) (BitVec.ofNat 32 i.val) = BitVec.ofBool (decide (e = i)) := by
    revert e i; decide
  rw [h]
  by_cases h : e = i <;> simp [h, Scalar.select]

/-- Leaving out an expert by its number is leaving out that expert. -/
theorem butOne_iff (i k : Fin 8) : butOne (BitVec.ofNat 32 i.val) k.val ↔ k ≠ i := by
  show BitVec.ofNat 32 i.val ≠ BitVec.ofNat 32 k.val ↔ k ≠ i
  revert i k; decide

/-- The sigmoid as the kernel computes it. -/
theorem kernel_sigm (t : ℝ) : Ideal.div 1 (1 + Ideal.exp (0 - (t : EReal))) = (sigm t : EReal) := by
  rw [← EReal.coe_zero, ← EReal.coe_sub, div_one_add_exp, zero_sub]; rfl

section weights
variable (v : FVec Ideal S8x4096 .f32) (p : Fin 4096)

/-- The chosen expert's numbers, one for each position. -/
def chosen : IVec S1x4096 32 := k0_pay28 (F := Ideal) v ⊥

/-- The second running maximum after six experts. -/
def max6 : FVec Ideal S1x4096 .f32 :=
  k0_pay50 v (chosen v) (k0_pay29 (F := Ideal)) (k0_pay31 v) (bit93 v (k0_pay29 (F := Ideal))) (bit95 (chosen v))

/-- Its holder. -/
def index6 : IVec S1x4096 32 :=
  k0_pay51 v (chosen v) (k0_pay29 (F := Ideal)) k0_pay30 (k0_pay31 v) (bit93 v (k0_pay29 (F := Ideal))) (bit95 (chosen v))

/-- The comparison of the seventh expert. -/
def bit6 : IVec S1x4096 1 :=
  k0_pay53 v (chosen v) (k0_pay29 (F := Ideal)) (k0_pay31 v) (bit93 v (k0_pay29 (F := Ideal))) (bit95 (chosen v))

/-- The first addend of the weights. -/
def part1 : FVec Ideal S8x4096 .f32 :=
  k0_pay60 v (k0_pay27 v ⊥) (chosen v) (max6 v) (k0_pay52 v) (bit6 v) (k0_pay54 (chosen v))

/-- Where the second addend of the weights is not zero. -/
def where2 : IVec S8x4096 1 :=
  k0_pay61 v (chosen v) (max6 v) (index6 v) (k0_pay52 v) (bit6 v) (k0_pay54 (chosen v))

/-- The second addend of the weights there. -/
def part2 : FVec Ideal S8x4096 .f32 :=
  k0_pay62 v (k0_pay27 v ⊥) (chosen v) (max6 v) (k0_pay52 v) (bit6 v) (k0_pay54 (chosen v))

/-- The second search starts at −∞. -/
theorem mask_row : k0_pay29 (F := Ideal) (ix2 0 p) = (⊥ : EReal) := rfl

/-- A column's logit by the expert. -/
theorem col_val (k : Fin 8) : col v p k.val = v (ix2 k p) := by
  have h : Fin.ofNat 8 k.val = k := Fin.ext (Nat.mod_eq_of_lt k.isLt)
  unfold col; rw [h]

/-- The weights of a position whose logits are real: the shares of the two best experts. -/
theorem weights_apply (t : Fin 8 → ℝ) (ht : ∀ k, v (ix2 k p) = (t k : EReal)) :
    ∃ i₁ i₂ : Fin 8, IsBest (fun k => (t k : EReal)) (fun _ => True) i₁ ∧ IsBest (fun k => (t k : EReal)) (fun k => k ≠ i₁) i₂
      ∧ ∀ e : Fin 8, part1 v (ix2 e p) + Scalar.select (where2 v (ix2 e p)) (part2 v (ix2 e p)) (k0_pay63 (F := Ideal) (ix2 e p))
          = (weight i₁ i₂ (t i₁) (t i₂) e : EReal) := by
  have hcol : ∀ k : Fin 8, col v p k.val = (t k : EReal) := fun k => (col_val v p k).trans (ht k)
  have hcf : (fun k : Fin 8 => col v p k.val) = fun k => (t k : EReal) := funext hcol
  have hz : ∀ k < 8, col v p k ≠ ⊥ := fun k hk => by rw [hcol ⟨k, hk⟩]; exact EReal.coe_ne_bot _
  obtain ⟨i₁, hb1, hr1⟩ := running_best (col v p) anyone hz ⟨0, by decide, trivial⟩
  have hu : chosen v (ix2 0 p) = BitVec.ofNat 32 i₁.val := by
    show k0_pay28 (F := Ideal) v ⊥ (ix2 0 p) = _
    rw [first_index, hr1]
  have hm1 : k0_pay27 (F := Ideal) v ⊥ (ix2 0 p) = (t i₁ : EReal) := by rw [first_top, hr1]; exact hcol i₁
  have hex : ∃ k < 8, butOne (chosen v (ix2 0 p)) k := by
    rw [hu]
    by_cases h : i₁ = 0
    · exact ⟨1, by decide, (butOne_iff i₁ 1).mpr (by rw [h]; decide)⟩
    · exact ⟨0, by decide, (butOne_iff i₁ 0).mpr (fun h' => h h'.symm)⟩
  obtain ⟨i₂, hb2, hr2⟩ := running_best (col v p) (butOne (chosen v (ix2 0 p))) hz hex
  have hm2 := (second_top v (chosen v) (k0_pay29 (F := Ideal)) p (mask_row p)).trans
    ((congrArg Prod.fst hr2).trans (hcol i₂))
  have hi2 := (second_index v (chosen v) (k0_pay29 (F := Ideal)) p (mask_row p)).trans (congrArg Prod.snd hr2)
  refine ⟨i₁, i₂, ?_, ?_, fun e => ?_⟩
  · rw [← hcf]; exact hb1
  · rw [← hcf]
    have : (fun k : Fin 8 => k ≠ i₁) = fun k : Fin 8 => butOne (chosen v (ix2 0 p)) k.val := by
      funext k; rw [hu, butOne_iff]
    rw [this]; exact hb2
  · have h59 : k0_pay59 v (k0_pay27 v ⊥) (chosen v) (max6 v) (k0_pay52 v) (bit6 v) (k0_pay54 (chosen v)) (ix2 0 p)
        = (share (sigm (t i₁)) (sigm (t i₂)) : EReal) := by
      have h : k0_pay59 v (k0_pay27 v ⊥) (chosen v) (max6 v) (k0_pay52 v) (bit6 v) (k0_pay54 (chosen v)) (ix2 0 p)
          = Ideal.div 1 (1 + Ideal.exp (Ideal.div 1 (1 + Ideal.exp (0 -
              Scalar.select (k0_pay58 (F := Ideal) v (chosen v) (max6 v) (k0_pay52 v) (bit6 v) (k0_pay54 (chosen v)) (ix2 0 p))
                (k0_pay57 (F := Ideal) v (ix2 0 p))
                (k0_pay56 (F := Ideal) (max6 v) (k0_pay52 v) (bit6 v) (k0_pay54 (chosen v)) (ix2 0 p))))
              - Ideal.div 1 (1 + Ideal.exp (0 - k0_pay27 (F := Ideal) v ⊥ (ix2 0 p))))) := by
        generalize max6 v = a
        generalize bit6 v = b
        generalize k0_pay27 (F := Ideal) v ⊥ = d
        pointwise [k0_pay59]
      refine h.trans ?_
      refine (congrArg (fun x => Ideal.div 1 (1 + Ideal.exp (Ideal.div 1 (1 + Ideal.exp (0 - x))
        - Ideal.div 1 (1 + Ideal.exp (0 - k0_pay27 (F := Ideal) v ⊥ (ix2 0 p)))))) hm2).trans ?_
      rw [hm1, kernel_sigm, kernel_sigm, ← EReal.coe_sub, div_one_add_exp]
      rfl
    have h1 : part1 v (ix2 e p) = if e = i₁ then (share (sigm (t i₁)) (sigm (t i₂)) : EReal) else 0 := by
      rw [← select_eq, ← h59, ← hu]
      unfold part1
      generalize max6 v = a
      generalize bit6 v = b
      generalize k0_pay27 (F := Ideal) v ⊥ = d
      pointwise [k0_pay60]
    have h2 : part2 v (ix2 e p) = ((1 - share (sigm (t i₁)) (sigm (t i₂)) : ℝ) : EReal) := by
      rw [EReal.coe_sub, EReal.coe_one, ← h59]
      unfold part2
      generalize max6 v = a
      generalize bit6 v = b
      generalize k0_pay27 (F := Ideal) v ⊥ = d
      pointwise [k0_pay62]
    have h3 : where2 v (ix2 e p) = IntOp.cmpi .eq (BitVec.ofNat 32 e.val) (BitVec.ofNat 32 i₂.val) := by
      refine Eq.trans ?_ (congrArg (IntOp.cmpi .eq (BitVec.ofNat 32 e.val)) hi2)
      show where2 v (ix2 e p) = IntOp.cmpi .eq (BitVec.ofNat 32 e.val)
        (Scalar.select (k0_pay58 (F := Ideal) v (chosen v) (max6 v) (k0_pay52 v) (bit6 v) (k0_pay54 (chosen v)) (ix2 0 p)) 7#32
          (Scalar.select (k0_pay55 (bit6 v) (k0_pay54 (chosen v)) (ix2 0 p)) 6#32 (index6 v (ix2 0 p))))
      unfold where2
      generalize max6 v = a
      generalize bit6 v = b
      generalize index6 v = d
      pointwise [k0_pay61]
    have h4 : k0_pay63 (F := Ideal) (ix2 e p) = (0 : EReal) := by pointwise [k0_pay63]
    rw [h1, h2, h3, h4, select_eq]
    unfold weight
    rw [EReal.coe_add]
    split <;> split <;> simp

end weights

end Cert.KernelIdeal.Moe

end
-- ==== Proof.KernelHost.lean ====
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Spec

@[expose] public section

set_option maxRecDepth 16384

noncomputable section

namespace Cert.KernelIdeal.Moe

open Idealize.ShloMosaic Idealize.ShloMosaic.TcCoe Idealize.SL.Sem
open Cert.KernelIdeal Cert.KernelIdeal.Gen Cert.Moe

/-! # The arrays the kernel's program hands to the kernel -/

section operands
variable (m : (ℓ : Loc nD τ sig) → Buf (Elt Ideal) ℓ) (c : Dev nD)

/-- The experts' and the shared weights, a row to an output channel. -/
def wallRows : FVec Ideal S864x864 .f32 :=
  shapeCast S864x864 (transpose S864x3x3x96 [0, 2, 3, 1]
    (concatenate S864x96x3x3 0 [⟨S768x96x3x3, shapeCast S768x96x3x3 (m (c, Proc.devRef .tc main_arg2)) Facts₀.shapeCasts_S8x96x96x3x3_S768x96x3x3⟩,
      ⟨S96x96x3x3, m (c, Proc.devRef .tc main_arg4)⟩] Facts₀.concatenates_S768x96x3x3_S96x96x3x3_S864x96x3x3_d0)
    Facts₀.transposes_S864x96x3x3_S864x3x3x96_0_2_3_1) Facts₀.shapeCasts_S864x3x3x96_S864x864

/-- The gate weights, a row to an expert. -/
def gateRows : FVec Ideal S8x864 .f32 :=
  shapeCast S8x864 (transpose S8x3x3x96 [0, 2, 3, 1] (m (c, Proc.devRef .tc main_arg1)) Facts₀.transposes_S8x96x3x3_S8x3x3x96_0_2_3_1)
    Facts₀.shapeCasts_S8x3x3x96_S8x864

/-- The weights the kernel reads: the convolutions' rows, the gate's, and the gate's low parts. -/
theorem entry_w : V m c main_v20 = concatenate S880x864 0
    [⟨S864x864, truncf .bf16 (wallRows m c) Facts₀.bitsLt_bf16_f32⟩, ⟨S8x864, truncf .bf16 (gateRows m c) Facts₀.bitsLt_bf16_f32⟩,
      ⟨S8x864, truncf .bf16 (subf (gateRows m c) (extf .f32 (truncf .bf16 (gateRows m c) Facts₀.bitsLt_bf16_f32) Facts₀.bitsLt_bf16_f32)) Facts₀.bitsLt_bf16_f32⟩]
    Facts₀.concatenates_S864x864_S8x864_S8x864_S880x864_d0 := by
  entry_read
  simp only [hostOps0, hostOps0_1, hostOps0_2, List.flatten_cons, List.flatten_nil, List.cons_append, List.nil_append, List.append_nil]
  after_reads_simp
  rfl

/-- The padded image, the same in both readings. -/
def image : FVec Ideal S96x256x256 .f32 :=
  pad S96x256x256 ![0, 16, 1] ![0, 16, 31] ![0, 0, 0] (shapeCast S96x224x224 (m (c, Proc.devRef .tc main_arg0)) Facts₀.shapeCasts_S1x96x224x224_S96x224x224)
    (sitofp .f32 (constantI S_ 32 0#32)) Facts₀.pads_S96x224x224_S96x256x256_000_16160_1310 Facts₀.h_S_

/-- The flat image's high part, as the host code computes it. -/
theorem entry_hi : V m c main_v3 = shapeCast S96x65536 (truncf .bf16 (image m c) Facts₀.bitsLt_bf16_f32 : FVec Ideal S96x256x256 .bf16) Facts₀.shapeCasts_S96x256x256_S96x65536 := by
  entry_read
  simp only [hostOps0, hostOps0_1, hostOps0_2, List.flatten_cons, List.flatten_nil, List.cons_append, List.nil_append, List.append_nil]
  after_reads_simp
  rfl

/-- Its remainder. -/
theorem entry_lo : V m c main_v8 = shapeCast S96x65536 (truncf .bf16 (subf (image m c) (extf .f32
   (shapeCast S96x256x256 (shapeCast S96x65536 (truncf .bf16 (image m c) Facts₀.bitsLt_bf16_f32) Facts₀.shapeCasts_S96x256x256_S96x65536 : FVec Ideal S96x65536 .bf16) Facts₀.shapeCasts_S96x65536_S96x256x256) Facts₀.bitsLt_bf16_f32)) Facts₀.bitsLt_bf16_f32 : FVec Ideal S96x256x256 .bf16) Facts₀.shapeCasts_S96x256x256_S96x65536 := by
  entry_read
  simp only [hostOps0, hostOps0_1, hostOps0_2, List.flatten_cons, List.flatten_nil, List.cons_append, List.nil_append, List.append_nil]
  after_reads_simp
  rfl

/-- The experts' biases, by output channel and expert. -/
theorem entry_eb : V m c main_v21 = transpose S96x8 [1, 0] (m (c, Proc.devRef .tc main_arg3)) Facts₀.transposes_S8x96_S96x8_1_0 := by
  entry_read
  simp only [hostOps0, hostOps0_1, hostOps0_2, List.flatten_cons, List.flatten_nil, List.cons_append, List.nil_append, List.append_nil]
  after_reads_simp

/-- The shared bias. -/
theorem entry_sb : V m c main_v22 = broadcastInDim S96x1 ![0] Facts₀.bcast_S96_S96x1_0 (m (c, Proc.devRef .tc main_arg5)) := by
  entry_read
  simp only [hostOps0, hostOps0_1, hostOps0_2, List.flatten_cons, List.flatten_nil, List.cons_append, List.nil_append, List.append_nil]
  after_reads_simp

/-- The padding puts 16 rows of zeros above the image and 16 below, one column to its left and 31 to its right. -/
theorem pad_apply (I : FVec Ideal S96x224x224 .f32) (ci : Fin 96) (r k : Fin 256) :
    pad S96x256x256 ![0, 16, 1] ![0, 16, 31] ![0, 0, 0] I (sitofp .f32 (constantI S_ 32 0#32) : FVec Ideal S_ .f32)
        Facts₀.pads_S96x224x224_S96x256x256_000_16160_1310 Facts₀.h_S_ (ix3 ci r k)
      = padded (fun ci h w => I (ix3 ci h w)) ci (r.val - 15) k.val := by
  have h0 : FloatOps.sitofp (F := Ideal) FTy.f32 (0#32) = (0 : EReal) := by
    show (((0#32 : BitVec 32).toInt : ℝ) : EReal) = 0
    simp
  pointwise
  unfold padded
  have hr := r.isLt
  have hk := k.isLt
  by_cases h : (16 ≤ r.val ∧ r.val - 16 < 224) ∧ 1 ≤ k.val ∧ k.val - 1 < 224
  · rw [dif_pos h, dif_pos (by omega)]
    refine congrArg I (congrArg (fun a => ix3 ci a _) (Fin.ext ?_))
    show r.val - 16 = r.val - 15 - 1
    omega
  · rw [dif_neg h, dif_neg (by omega)]
    exact h0

/-- The image the arrays hold. -/
def photo : Fin 96 → Fin 224 → Fin 224 → EReal := fun ci h w => m (c, Proc.devRef .tc main_arg0) (ix4 0 ci h w)

/-- The photo with its leading axis dropped, at an index. -/
theorem photo_read (A : FVec Ideal S1x96x224x224 .f32) (ci : Fin 96) (h w : Fin 224) :
    shapeCast S96x224x224 A Facts₀.shapeCasts_S1x96x224x224_S96x224x224 (ix3 ci h w) = A (ix4 0 ci h w) := by
  pointwise

/-- The image that the host code pads, at an index: the padded photo, fifteen rows further down. -/
theorem image_apply (ci : Fin 96) (r k : Fin 256) : image m c (ix3 ci r k) = padded (photo m c) ci (r.val - 15) k.val := by
  unfold image
  rw [pad_apply]
  congr 1
  funext ci h w
  exact photo_read _ ci h w

/-- The high window's array: the padded image, a row of 256 after another. -/
theorem hi_apply (ci : Fin 96) (r k : ℕ) (hr : r < 241) (hk : k < 256) (n : Fin 65536) (hn : n.val = (15 + r) * 256 + k) :
    V m c main_v3 (ix2 ci n) = padded (photo m c) ci r k := by
  have h : V m c main_v3 (ix2 ci n) = image m c (ix3 ci ⟨15 + r, by omega⟩ ⟨k, hk⟩) := by
    rw [entry_hi]
    generalize image m c = I
    pointwise
    exact congrArg₂ (fun a b => I (ix3 ci a b)) (Fin.ext (by show n.val / 256 = 15 + r; omega)) (Fin.ext (by show n.val % 256 = k; omega))
  rw [h, image_apply]
  congr 1
  show 15 + r - 15 = r
  omega

/-- The low window's array: what the high one leaves of the padded image. -/
theorem lo_apply (ci : Fin 96) (r k : ℕ) (hr : r < 241) (hk : k < 256) (n : Fin 65536) (hn : n.val = (15 + r) * 256 + k) :
    V m c main_v8 (ix2 ci n) = (padded (photo m c) ci r k - padded (photo m c) ci r k : EReal) := by
  have h : V m c main_v8 (ix2 ci n)
      = (image m c (ix3 ci ⟨15 + r, by omega⟩ ⟨k, hk⟩) - image m c (ix3 ci ⟨15 + r, by omega⟩ ⟨k, hk⟩) : EReal) := by
    rw [entry_lo]
    generalize image m c = I
    pointwise
    refine congrArg (fun x : EReal => x - x) ?_
    exact congrArg₂ (fun a b => I (ix3 ci a b)) (Fin.ext (by show n.val / 256 = 15 + r; omega)) (Fin.ext (by show n.val % 256 = k; omega))
  rw [h, image_apply]
  have h' : (⟨15 + r, by omega⟩ : Fin 256).val - 15 = r := by show 15 + r - 15 = r; omega
  rw [h']

/-- The column of a row of weights that holds tap `(dy, dx)` of channel `ci`. -/
def tapCol (dy dx : Fin 3) (ci : Fin 96) : Fin 864 := ⟨96 * (3 * dy.val + dx.val) + ci.val, by omega⟩

/-- A stack of weights laid out as a matrix, at an index. -/
theorem rows_read (T : FVec Ideal S864x96x3x3 .f32) (r : Fin 864) (dy dx : Fin 3) (ci : Fin 96) :
    shapeCast S864x864 (transpose S864x3x3x96 [0, 2, 3, 1] T Facts₀.transposes_S864x96x3x3_S864x3x3x96_0_2_3_1)
      Facts₀.shapeCasts_S864x3x3x96_S864x864 (ix2 r (tapCol dy dx ci)) = T (ix4 r ci dy dx) := by
  unfold tapCol
  pointwise

/-- The experts' rows, then the shared expert's, at an index. -/
theorem concat_read (A : FVec Ideal S768x96x3x3 .f32) (B : FVec Ideal S96x96x3x3 .f32) (r : Fin 864) (dy dx : Fin 3) (ci : Fin 96) :
    concatenate S864x96x3x3 0 [⟨S768x96x3x3, A⟩, ⟨S96x96x3x3, B⟩] Facts₀.concatenates_S768x96x3x3_S96x96x3x3_S864x96x3x3_d0
        (ix4 r ci dy dx)
      = if h : r.val < 768 then A (ix4 ⟨r.val, h⟩ ci dy dx) else B (ix4 ⟨r.val - 768, by omega⟩ ci dy dx) := by
  pointwise

/-- The experts' weights with expert and channel merged, at an index. -/
theorem expert_read (A : FVec Ideal S8x96x96x3x3 .f32) (e : Fin 8) (o : Fin 96) (dy dx : Fin 3) (ci : Fin 96) :
    shapeCast S768x96x3x3 A Facts₀.shapeCasts_S8x96x96x3x3_S768x96x3x3 (ix4 ⟨96 * e.val + o.val, by omega⟩ ci dy dx)
      = A (ix5 e o ci dy dx) := by
  pointwise

/-- The gate's weights laid out as rows, at an index. -/
theorem gateRows_apply (e : Fin 8) (dy dx : Fin 3) (ci : Fin 96) :
    gateRows m c (ix2 e (tapCol dy dx ci)) = m (c, Proc.devRef .tc main_arg1) (ix4 e ci dy dx) := by
  unfold gateRows tapCol
  generalize m (c, Proc.devRef .tc main_arg1) = A
  pointwise

/-- The stacked matrix, at an index: the convolutions' rows, then the gate's high and low rows. -/
theorem stacked_read (I : FVec Ideal S864x864 .f32) (G : FVec Ideal S8x864 .f32) (r : Fin 880) (k : Fin 864) :
    (concatenate S880x864 0
      [⟨S864x864, truncf .bf16 I Facts₀.bitsLt_bf16_f32⟩, ⟨S8x864, truncf .bf16 G Facts₀.bitsLt_bf16_f32⟩,
        ⟨S8x864, truncf .bf16 (subf G (extf .f32 (truncf .bf16 G Facts₀.bitsLt_bf16_f32) Facts₀.bitsLt_bf16_f32)) Facts₀.bitsLt_bf16_f32⟩]
      Facts₀.concatenates_S864x864_S8x864_S8x864_S880x864_d0 : FVec Ideal S880x864 .bf16) (ix2 r k)
      = if h : r.val < 864 then I (ix2 ⟨r.val, h⟩ k)
        else if h : r.val - 864 < 8 then G (ix2 ⟨r.val - 864, h⟩ k)
        else (G (ix2 ⟨r.val - 864 - 8, by omega⟩ k) - G (ix2 ⟨r.val - 864 - 8, by omega⟩ k) : EReal) := by
  pointwise

/-- The rows of the experts' convolutions. -/
theorem w_expert (e : Fin 8) (o : Fin 96) (dy dx : Fin 3) (ci : Fin 96) (r : Fin 880) (hr : r.val = 96 * e.val + o.val) :
    V m c main_v20 (ix2 r (tapCol dy dx ci)) = m (c, Proc.devRef .tc main_arg2) (ix5 e o ci dy dx) := by
  obtain ⟨r, hr'⟩ := r
  obtain rfl : r = 96 * e.val + o.val := hr
  have h := stacked_read (wallRows m c) (gateRows m c) ⟨96 * e.val + o.val, by omega⟩ (tapCol dy dx ci)
  rw [dif_pos (show 96 * e.val + o.val < 864 by omega)] at h
  rw [entry_w]
  refine h.trans ?_
  unfold wallRows
  rw [rows_read, concat_read, dif_pos (show 96 * e.val + o.val < 768 by omega)]
  exact expert_read _ e o dy dx ci

/-- The rows of the shared convolution. -/
theorem w_shared (o : Fin 96) (dy dx : Fin 3) (ci : Fin 96) (r : Fin 880) (hr : r.val = 768 + o.val) :
    V m c main_v20 (ix2 r (tapCol dy dx ci)) = m (c, Proc.devRef .tc main_arg4) (ix4 o ci dy dx) := by
  obtain ⟨r, hr'⟩ := r
  obtain rfl : r = 768 + o.val := hr
  have h := stacked_read (wallRows m c) (gateRows m c) ⟨768 + o.val, by omega⟩ (tapCol dy dx ci)
  rw [dif_pos (show 768 + o.val < 864 by omega)] at h
  rw [entry_w]
  refine h.trans ?_
  unfold wallRows
  rw [rows_read, concat_read, dif_neg (show ¬ 768 + o.val < 768 by omega)]
  refine congrArg (fun a => (m (c, Proc.devRef .tc main_arg4) : FVec Ideal S96x96x3x3 .f32) (ix4 a ci dy dx)) (Fin.ext ?_)
  show 768 + o.val - 768 = o.val
  omega

/-- The rows of the gate. -/
theorem w_gate (e : Fin 8) (dy dx : Fin 3) (ci : Fin 96) (r : Fin 880) (hr : r.val = 864 + e.val) :
    V m c main_v20 (ix2 r (tapCol dy dx ci)) = m (c, Proc.devRef .tc main_arg1) (ix4 e ci dy dx) := by
  obtain ⟨r, hr'⟩ := r
  obtain rfl : r = 864 + e.val := hr
  have h := stacked_read (wallRows m c) (gateRows m c) ⟨864 + e.val, by omega⟩ (tapCol dy dx ci)
  rw [dif_neg (show ¬ 864 + e.val < 864 by omega), dif_pos (show 864 + e.val - 864 < 8 by omega)] at h
  rw [entry_w]
  refine h.trans ?_
  rw [← gateRows_apply m c e dy dx ci]
  refine congrArg (fun a => gateRows m c (ix2 a (tapCol dy dx ci))) (Fin.ext ?_)
  show 864 + e.val - 864 = e.val
  omega

/-- The rows of the gate's low parts. -/
theorem w_gate_low (e : Fin 8) (dy dx : Fin 3) (ci : Fin 96) (r : Fin 880) (hr : r.val = 872 + e.val) :
    V m c main_v20 (ix2 r (tapCol dy dx ci))
      = ((fun x : EReal => x - x) (m (c, Proc.devRef .tc main_arg1) (ix4 e ci dy dx)) : EReal) := by
  obtain ⟨r, hr'⟩ := r
  obtain rfl : r = 872 + e.val := hr
  have h := stacked_read (wallRows m c) (gateRows m c) ⟨872 + e.val, by omega⟩ (tapCol dy dx ci)
  rw [dif_neg (show ¬ 872 + e.val < 864 by omega), dif_neg (show ¬ 872 + e.val - 864 < 8 by omega)] at h
  rw [entry_w]
  refine h.trans ?_
  rw [← gateRows_apply m c e dy dx ci]
  refine congrArg (fun a => (fun x : EReal => x - x) (gateRows m c (ix2 a (tapCol dy dx ci)))) (Fin.ext ?_)
  show 872 + e.val - 864 - 8 = e.val
  omega

/-- The biases of the experts. -/
theorem eb_apply (o : Fin 96) (e : Fin 8) : V m c main_v21 (ix2 o e) = m (c, Proc.devRef .tc main_arg3) (ix2 e o) := by
  rw [entry_eb]
  generalize m (c, Proc.devRef .tc main_arg3) = A
  pointwise

/-- The shared bias. -/
theorem sb_apply (o : Fin 96) : V m c main_v22 (ix2 o 0) = m (c, Proc.devRef .tc main_arg5) (ix1 o) := by
  rw [entry_sb]
  generalize m (c, Proc.devRef .tc main_arg5) = A
  pointwise

end operands
end Cert.KernelIdeal.Moe

end
-- ==== Proof.KernelBlock.lean ====
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Claim

public import proofs.«01_k».proof.Proof.Spec
public import proofs.«01_k».proof.Proof.KernelConv
public import proofs.«01_k».proof.Proof.KernelRoute
public import proofs.«01_k».proof.Proof.KernelHost

@[expose] public section

set_option maxRecDepth 16384

noncomputable section

/-! # One block of the kernel's result -/

namespace Cert.KernelIdeal.Moe

open Idealize.ShloMosaic Idealize.ShloMosaic.TcCoe Idealize.SL.Sem
open Cert.KernelIdeal Cert.KernelIdeal.Gen
open Cert.Moe

/-- The block the kernel writes, from the two windows of the image, the weights, the gate's rows and the biases. -/
def block (hi lo : Vec Ideal S96x4864 .bf16) (W : Vec Ideal S880x864 .bf16) (Wg : Vec Ideal S16x864 .bf16)
    (eb : Vec Ideal S96x8 .f32) (sb : Vec Ideal S96x1 .f32) : FVec Ideal S96x16x224 .f32 :=
  k0_pay64 (k0_pay1 hi W) (part1 (k0_pay2 hi lo W Wg)) (where2 (k0_pay2 hi lo W Wg)) (part2 (k0_pay2 hi lo W Wg)) k0_pay63 eb sb

/-- Column `w` of row `hh` of a block, among the 4096 columns of the products. -/
def pix (hh : Fin 16) (w : Fin 224) : Fin 4096 := ⟨hh.val * 256 + (1 + w.val), by omega⟩

/-- The combination of the experts' rows by their weights. -/
theorem combine_apply (A : FVec Ideal S880x4096 .f32) (u : FVec Ideal S8x4096 .f32) (b : IVec S8x4096 1) (y z : FVec Ideal S8x4096 .f32)
    (eb : Vec Ideal S96x8 .f32) (sb : Vec Ideal S96x1 .f32) (wt : Fin 8 → EReal) (o : Fin 96) (hh : Fin 16) (w : Fin 224)
    (hwt : ∀ e, u (ix2 e (pix hh w)) + Scalar.select (b (ix2 e (pix hh w))) (y (ix2 e (pix hh w))) (z (ix2 e (pix hh w))) = wt e) :
    k0_pay64 (F := Ideal) A u b y z eb sb (ix3 o hh w)
      = A (ix2 ⟨768 + o.val, by omega⟩ (pix hh w)) + (∑ e : Fin 8, A (ix2 ⟨96 * e.val + o.val, by omega⟩ (pix hh w)) * wt e)
        + (∑ e : Fin 8, eb (ix2 o e) * wt e) + sb (ix2 o 0) := by
  have h : k0_pay64 (F := Ideal) A u b y z eb sb (ix3 o hh w)
      = A (ix2 ⟨768 + o.val, by omega⟩ (pix hh w))
        + A (ix2 ⟨o.val, by omega⟩ (pix hh w)) * (fun e => u (ix2 e (pix hh w)) + Scalar.select (b (ix2 e (pix hh w))) (y (ix2 e (pix hh w))) (z (ix2 e (pix hh w)))) 0
        + A (ix2 ⟨96 + o.val, by omega⟩ (pix hh w)) * (fun e => u (ix2 e (pix hh w)) + Scalar.select (b (ix2 e (pix hh w))) (y (ix2 e (pix hh w))) (z (ix2 e (pix hh w)))) 1
        + A (ix2 ⟨192 + o.val, by omega⟩ (pix hh w)) * (fun e => u (ix2 e (pix hh w)) + Scalar.select (b (ix2 e (pix hh w))) (y (ix2 e (pix hh w))) (z (ix2 e (pix hh w)))) 2
        + A (ix2 ⟨288 + o.val, by omega⟩ (pix hh w)) * (fun e => u (ix2 e (pix hh w)) + Scalar.select (b (ix2 e (pix hh w))) (y (ix2 e (pix hh w))) (z (ix2 e (pix hh w)))) 3
        + A (ix2 ⟨384 + o.val, by omega⟩ (pix hh w)) * (fun e => u (ix2 e (pix hh w)) + Scalar.select (b (ix2 e (pix hh w))) (y (ix2 e (pix hh w))) (z (ix2 e (pix hh w)))) 4
        + A (ix2 ⟨480 + o.val, by omega⟩ (pix hh w)) * (fun e => u (ix2 e (pix hh w)) + Scalar.select (b (ix2 e (pix hh w))) (y (ix2 e (pix hh w))) (z (ix2 e (pix hh w)))) 5
        + A (ix2 ⟨576 + o.val, by omega⟩ (pix hh w)) * (fun e => u (ix2 e (pix hh w)) + Scalar.select (b (ix2 e (pix hh w))) (y (ix2 e (pix hh w))) (z (ix2 e (pix hh w)))) 6
        + A (ix2 ⟨672 + o.val, by omega⟩ (pix hh w)) * (fun e => u (ix2 e (pix hh w)) + Scalar.select (b (ix2 e (pix hh w))) (y (ix2 e (pix hh w))) (z (ix2 e (pix hh w)))) 7
        + (∑ e : Fin 8, eb (ix2 o e) * (fun e => u (ix2 e (pix hh w)) + Scalar.select (b (ix2 e (pix hh w))) (y (ix2 e (pix hh w))) (z (ix2 e (pix hh w)))) e)
        + sb (ix2 o 0) := by
    unfold pix
    pointwise [k0_pay64]
  rw [h, show (fun e => u (ix2 e (pix hh w)) + Scalar.select (b (ix2 e (pix hh w))) (y (ix2 e (pix hh w))) (z (ix2 e (pix hh w)))) = wt from funext hwt]
  refine congrArg (· + sb (ix2 o 0)) (congrArg (· + ∑ e : Fin 8, eb (ix2 o e) * wt e) ?_)
  rw [Fin.sum_univ_eight]
  have h0 : (⟨o.val, by omega⟩ : Fin 880) = ⟨96 * (0 : Fin 8).val + o.val, by show 96 * 0 + o.val < 880; omega⟩ :=
    Fin.ext (by show o.val = 96 * 0 + o.val; omega)
  rw [h0]
  simp only [add_assoc]
  rfl

/-- What the block holds at a pixel, when the windows hold the padded image of reals and nothing else, and the gate is
    real: the entry the specification gives. -/
theorem block_entry (hi lo : Vec Ideal S96x4864 .bf16) (W : Vec Ideal S880x864 .bf16) (Wg : Vec Ideal S16x864 .bf16)
    (eb : Vec Ideal S96x8 .f32) (sb : Vec Ideal S96x1 .f32)
    (X : Fin 96 → Fin 224 → Fin 224 → EReal) (gate : Fin 8 → Fin 96 → Fin 3 → Fin 3 → EReal)
    (expert : Fin 8 → Fin 96 → Fin 96 → Fin 3 → Fin 3 → EReal) (shared : Fin 96 → Fin 96 → Fin 3 → Fin 3 → EReal)
    (hX : ∀ ci h w, ∃ x : ℝ, X ci h w = x) (hG : ∀ e ci dy dx, ∃ x : ℝ, gate e ci dy dx = x)
    (o : Fin 96) (hh : Fin 16) (h w : Fin 224)
    (hhi : ∀ (ci : Fin 96) (dy dx : Fin 3) (q : Fin 4864), q.val = 127 + 256 * dy.val + dx.val + (pix hh w).val →
      hi (ix2 ci q) = padded X ci (h.val + dy.val) (w.val + dx.val))
    (hlo : ∀ (ci : Fin 96) (dy dx : Fin 3) (q : Fin 4864), q.val = 127 + 256 * dy.val + dx.val + (pix hh w).val →
      lo (ix2 ci q) = (0 : EReal))
    (he : ∀ (e : Fin 8) (dy dx : Fin 3) (ci : Fin 96) (r : Fin 880), r.val = 96 * e.val + o.val →
      W (ix2 r (tapCol dy dx ci)) = expert e o ci dy dx)
    (hs : ∀ (dy dx : Fin 3) (ci : Fin 96) (r : Fin 880), r.val = 768 + o.val →
      W (ix2 r (tapCol dy dx ci)) = shared o ci dy dx)
    (hg : ∀ (e : Fin 8) (dy dx : Fin 3) (ci : Fin 96) (r : Fin 880), r.val = 864 + e.val →
      W (ix2 r (tapCol dy dx ci)) = gate e ci dy dx)
    (hl : ∀ (e : Fin 8) (dy dx : Fin 3) (ci : Fin 96) (r : Fin 880), r.val = 872 + e.val →
      W (ix2 r (tapCol dy dx ci)) = (0 : EReal)) :
    IsEntry (fun e => conv X (gate e) h w) (fun e => conv X (expert e o) h w) (fun e => eb (ix2 o e))
      (conv X (shared o) h w) (sb (ix2 o 0)) (block hi lo W Wg eb sb (ix3 o hh w)) := by
  have main : ∀ (r : Fin 880) (K : Fin 96 → Fin 3 → Fin 3 → EReal),
      (∀ dy dx ci, W (ix2 r (tapCol dy dx ci)) = K ci dy dx) →
      taps (fun k => W (ix2 r k)) (fun ci q => hi (ix2 ci q)) (pix hh w) = conv X K h w := fun r K hK =>
    Finset.sum_congr rfl fun dy _ => Finset.sum_congr rfl fun dx _ => Finset.sum_congr rfl fun ci _ =>
      congrArg₂ (fun a b : EReal => a * b) (hK dy dx ci) (hhi ci dy dx _ rfl)
  have low : ∀ f : Fin 864 → EReal, taps f (fun ci q => lo (ix2 ci q)) (pix hh w) = 0 := fun f =>
    Finset.sum_eq_zero fun dy _ => Finset.sum_eq_zero fun dx _ => Finset.sum_eq_zero fun ci _ =>
      (congrArg (fun b : EReal => f (tapCol dy dx ci) * b) (hlo ci dy dx _ rfl)).trans (mul_zero _)
  have zero : ∀ r : Fin 880, (∀ dy dx ci, W (ix2 r (tapCol dy dx ci)) = (0 : EReal)) →
      taps (fun k => W (ix2 r k)) (fun ci q => hi (ix2 ci q)) (pix hh w) = 0 := fun r hK =>
    Finset.sum_eq_zero fun dy _ => Finset.sum_eq_zero fun dx _ => Finset.sum_eq_zero fun ci _ =>
      (congrArg (fun a : EReal => a * _) (hK dy dx ci)).trans (zero_mul _)
  have ht : ∀ e, ∃ x : ℝ, conv X (gate e) h w = x := fun e => conv_real X (gate e) h w hX (hG e)
  choose t ht using ht
  have hz : ∀ k, k0_pay2 (F := Ideal) hi lo W Wg (ix2 k (pix hh w)) = (t k : EReal) := fun k => by
    rw [pay2_apply, main _ (gate k) (fun dy dx ci => hg k dy dx ci _ rfl), zero _ (fun dy dx ci => hl k dy dx ci _ rfl), low, low,
      add_zero, add_zero, add_zero, ht]
  obtain ⟨i₁, i₂, h₁, h₂, hw⟩ := weights_apply (k0_pay2 (F := Ideal) hi lo W Wg) (pix hh w) t hz
  have hzt : (fun k => ((t k : ℝ) : EReal)) = fun e => conv X (gate e) h w := funext fun e => (ht e).symm
  refine ⟨t, i₁, i₂, ht, hzt ▸ h₁, hzt ▸ h₂, ?_⟩
  unfold block
  rw [combine_apply _ _ _ _ _ eb sb _ o hh w hw]
  rw [← mix _ _ _ _ _ (fun e => weight_nonneg i₁ i₂ (t i₁) (t i₂) e)]
  refine congrArg (· + sb (ix2 o 0)) (congrArg (· + ∑ e : Fin 8, eb (ix2 o e) * (weight i₁ i₂ (t i₁) (t i₂) e : EReal))
    (congrArg₂ (fun a b : EReal => a + b) ?_ ?_))
  · rw [pay1_apply]
    exact main _ (shared o) (fun dy dx ci => hs dy dx ci _ rfl)
  · refine Finset.sum_congr rfl fun e _ => congrArg (fun a : EReal => a * _) ?_
    rw [pay1_apply]
    exact main _ (expert e o) (fun dy dx ci => he e dy dx ci _ rfl)

end Cert.KernelIdeal.Moe

end
-- ==== Proof.KernelArray.lean ====
module

public import proofs.«01_k».proof.Defs
public import proofs.«01_k».proof.Proof.Gen.KernelIdeal.Frame
public import Idealize.ShloMosaic.Lib.Pipeline.ValueKit
public import Idealize.ShloMosaic.Lib.Pointwise
public import Idealize.ShloMosaic.Lib.Claim

public import proofs.«01_k».proof.Proof.KernelBlock

@[expose] public section

set_option maxRecDepth 16384

noncomputable section

/-! # The kernel's result -/

namespace Cert.KernelIdeal.Moe

open Idealize.ShloMosaic Idealize.ShloMosaic.TcCoe Idealize.SL.Sem
open Idealize.ShloMosaic.Pipeline (Dat)
open Cert.KernelIdeal Cert.KernelIdeal.Gen
open Cert.Moe

section array

variable (m : (ℓ : Loc nD τ sig) → Buf (Elt Ideal) ℓ) (c : Dev nD)

/-- The blocks' places: every input is read whole, and the result's blocks are rows of 16. -/
theorem places : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, t.val, 0] :=
  (by decide +kernel : ∀ t : Fin grid0.N, _)

/-- Where in the flat image a grid point starts. -/
theorem offsets : ∀ t : Fin cfg0.N, k0_off1 (grid0.coords t) = ![0, t.val * 4096 + 3712] :=
  (by decide +kernel : ∀ t : Fin grid0.N, _)

/-- At every point the first window is the whole flat image's high part, -/
theorem iblk_hi (t : Fin cfg0.N) : iblk m c 0 t = V m c main_v3 := by
  funext y; blk_ext [iblk, places t]

/-- the second its remainder, -/
theorem iblk_lo (t : Fin cfg0.N) : iblk m c 1 t = V m c main_v8 := by
  funext y; blk_ext [iblk, places t]

/-- the third the stacked weights, -/
theorem iblk_w (t : Fin cfg0.N) : iblk m c 2 t = V m c main_v20 := by
  funext y; blk_ext [iblk, places t]

/-- the fourth the experts' biases, -/
theorem iblk_eb (t : Fin cfg0.N) : iblk m c 3 t = V m c main_v21 := by
  funext y; blk_ext [iblk, places t]

/-- the fifth the shared bias. -/
theorem iblk_sb (t : Fin cfg0.N) : iblk m c 4 t = V m c main_v22 := by
  funext y; blk_ext [iblk, places t]

/-- The window of an image array that grid point `t` loads. -/
def window (A : S96x65536.Idx → EReal) (t : Fin cfg0.N) : Vec Ideal S96x4864 .bf16 :=
  View.ld A (Rect.unit (s := S96x65536) (k0_off1 (grid0.coords t)) S96x4864.size (Facts₀.k0_off1_inb (grid0.coords t)))

/-- A grid point's stretch of the flat image, at an index. -/
theorem window_apply (A : S96x65536.Idx → EReal) (t : Fin cfg0.N) (ci : Fin 96) (q : Fin 4864) (n : Fin 65536)
    (hn : n.val = t.val * 4096 + 3712 + q.val) : window A t (ix2 ci q) = A (ix2 ci n) := by
  refine congrArg A (funext fun a => Fin.ext ?_)
  match a with
  | 0 =>
    show k0_off1 (grid0.coords t) 0 + 1 * ci.val = ci.val
    rw [offsets t]
    show 0 + 1 * ci.val = ci.val
    omega
  | 1 =>
    show k0_off1 (grid0.coords t) 1 + 1 * q.val = n.val
    rw [offsets t, hn]
    show t.val * 4096 + 3712 + 1 * q.val = _
    omega

/-- The weights the arrays hold: the gate's, -/
def gateOf : Fin 8 → Fin 96 → Fin 3 → Fin 3 → EReal := fun e ci dy dx => m (c, Proc.devRef .tc main_arg1) (ix4 e ci dy dx)
/-- the experts', by expert and output channel, -/
def expertOf : Fin 8 → Fin 96 → Fin 96 → Fin 3 → Fin 3 → EReal :=
  fun e o ci dy dx => m (c, Proc.devRef .tc main_arg2) (ix5 e o ci dy dx)
/-- the experts' biases, -/
def biasOf : Fin 8 → Fin 96 → EReal := fun e o => m (c, Proc.devRef .tc main_arg3) (ix2 e o)
/-- the shared weights, by output channel, -/
def sharedOf : Fin 96 → Fin 96 → Fin 3 → Fin 3 → EReal := fun o ci dy dx => m (c, Proc.devRef .tc main_arg4) (ix4 o ci dy dx)
/-- and the shared bias. -/
def sharedBiasOf : Fin 96 → EReal := fun o => m (c, Proc.devRef .tc main_arg5) (ix1 o)

/-- The result array's entries. -/
def Entry (i : S96x224x224.Idx) (v : EReal) : Prop :=
  IsEntry (fun e => conv (photo m c) (gateOf m c e) (i 1) (i 2)) (fun e => conv (photo m c) (expertOf m c e (i 0)) (i 1) (i 2))
    (fun e => biasOf m c e (i 0)) (conv (photo m c) (sharedOf m c (i 0)) (i 1) (i 2)) (sharedBiasOf m c (i 0)) v

/-- The grid has 14 points. -/
theorem point_bound (t : Fin cfg0.N) : t.val < 14 := (by decide +kernel : ∀ t : Fin grid0.N, t.val < 14) t

/-- Where the entry of a block lands in the result. -/
theorem place_entry (t : Fin cfg0.N) (o : Fin 96) (hh : Fin 16) (w : Fin 224) :
    (((cfg0.win 5).blk t).view.emb (ix3 o hh w) : S96x224x224.Idx)
      = ix3 o ⟨t.val * 16 + hh.val, by have := point_bound t; omega⟩ w := by
  blk_ext [places t]

/-- The entries of the result array, when the image and the gate are real. -/
theorem final (hX : ∀ ci h w, ∃ x : ℝ, photo m c ci h w = x)
    (hG : ∀ (e : Fin 8) (ci : Fin 96) (dy dx : Fin 3), ∃ x : ℝ, gateOf m c e ci dy dx = x)
    (i : S96x224x224.Idx) : Entry m c i ((dats m 0 c).arrAt 5 (cfgs 0).N i) := by
  refine (dats m 0 c).arrAt_forall_of_covers 5 (fun i v => Entry m c i v) (by decide +kernel) (fun t hf y => ?_) i
  blk_simp
  rw [after0_5]
  unfold outsAt0
  frame_out
  rw [iblk_hi, iblk_lo, iblk_w, iblk_eb, iblk_sb]
  show Entry m c (((cfg0.win 5).blk t).view.emb y) (block (window (V m c main_v3) t) (window (V m c main_v8) t) (V m c main_v20)
    (View.ld (V m c main_v20) (Rect.unit (s := S880x864) ![864, 0] ![16, 864] Facts₀.inb_S880x864_S16x864_864_0))
    (V m c main_v21) (V m c main_v22) y)
  obtain ⟨o, hh, w, rfl⟩ : ∃ (o : Fin 96) (hh : Fin 16) (w : Fin 224), y = ix3 o hh w := ⟨y 0, y 1, y 2, eq_ix3 y⟩
  have ht := point_bound t
  refine Eq.mpr (congrArg (fun i => Entry m c i _) (place_entry t o hh w)) ?_
  have hb := block_entry (window (V m c main_v3) t) (window (V m c main_v8) t) (V m c main_v20)
    (View.ld (V m c main_v20) (Rect.unit (s := S880x864) ![864, 0] ![16, 864] Facts₀.inb_S880x864_S16x864_864_0))
    (V m c main_v21) (V m c main_v22) (photo m c)
    (gateOf m c) (expertOf m c) (sharedOf m c) hX hG o hh ⟨t.val * 16 + hh.val, by omega⟩ w
    (fun ci dy dx q hq => by
      unfold pix at hq
      have hq' : q.val = 127 + 256 * dy.val + dx.val + (hh.val * 256 + (1 + w.val)) := hq
      refine (window_apply _ t ci q ⟨t.val * 4096 + 3712 + q.val, by omega⟩ rfl).trans ?_
      exact hi_apply m c ci _ _ (by show t.val * 16 + hh.val + dy.val < 241; omega) (by omega) _
        (by show t.val * 4096 + 3712 + q.val = (15 + (t.val * 16 + hh.val + dy.val)) * 256 + (w.val + dx.val); omega))
    (fun ci dy dx q hq => by
      unfold pix at hq
      have hq' : q.val = 127 + 256 * dy.val + dx.val + (hh.val * 256 + (1 + w.val)) := hq
      refine (window_apply _ t ci q ⟨t.val * 4096 + 3712 + q.val, by omega⟩ rfl).trans ?_
      refine (lo_apply m c ci (t.val * 16 + hh.val + dy.val) (w.val + dx.val) (by omega) (by omega) _
        (by show t.val * 4096 + 3712 + q.val = (15 + (t.val * 16 + hh.val + dy.val)) * 256 + (w.val + dx.val); omega)).trans ?_
      obtain ⟨x, hx⟩ := padded_real (photo m c) hX ci (t.val * 16 + hh.val + dy.val) (w.val + dx.val)
      rw [hx, ← EReal.coe_sub, sub_self, EReal.coe_zero])
    (fun e dy dx ci r hr => w_expert m c e o dy dx ci r hr)
    (fun dy dx ci r hr => w_shared m c o dy dx ci r hr)
    (fun e dy dx ci r hr => w_gate m c e dy dx ci r hr)
    (fun e dy dx ci r hr => by
      refine (w_gate_low m c e dy dx ci r hr).trans ?_
      obtain ⟨x, hx⟩ := hG e ci dy dx
      show gateOf m c e ci dy dx - gateOf m c e ci dy dx = 0
      rw [hx, ← EReal.coe_sub, sub_self, EReal.coe_zero])
  unfold Entry
  rw [sb_apply, show (fun e => V m c main_v21 (ix2 o e)) = fun e => biasOf m c e o from
    funext fun e => eb_apply m c o e] at hb
  exact hb

end array

end Cert.KernelIdeal.Moe

end
-- ==== Proof.RefConv.lean ====
module

public import proofs.«01_k».proof.Defs
public import proofs.«01_k».proof.Proof.Gen.ReferenceIdeal.Run
public import proofs.«01_k».proof.Proof.Spec
public import Idealize.ShloMosaic.Lib.Pointwise
public import Idealize.ShloMosaic.Lib.Claim
public import Idealize.ShloMosaic.Lib.Tactic.CleanTypes

@[expose] public section

set_option maxRecDepth 16384

noncomputable section

/-! # The reference's convolutions at an index -/

namespace Cert.ReferenceIdeal.Moe

open Idealize.ShloMosaic Idealize.ShloMosaic.TcCoe Idealize.SL.Sem
open Cert.ReferenceIdeal Cert.ReferenceIdeal.Value
open Cert.Moe

section convs

variable (L : Valuation τ sig (Elt Ideal))

/-- What the reference's arguments hold: the image, -/
def photo : Fin 96 → Fin 224 → Fin 224 → EReal := fun ci h w => L (Proc.devRef .tc main_arg0) (ix4 0 ci h w)
/-- the gate's weights, by expert, -/
def gateOf : Fin 8 → Fin 96 → Fin 3 → Fin 3 → EReal := fun e ci dy dx => L (Proc.devRef .tc main_arg1) (ix4 e ci dy dx)
/-- the experts' weights, by expert and output channel, -/
def expertOf : Fin 8 → Fin 96 → Fin 96 → Fin 3 → Fin 3 → EReal :=
  fun e o ci dy dx => L (Proc.devRef .tc main_arg2) (ix5 e o ci dy dx)
/-- their biases, -/
def biasOf : Fin 8 → Fin 96 → EReal := fun e o => L (Proc.devRef .tc main_arg3) (ix2 e o)
/-- the shared weights, by output channel, -/
def sharedOf : Fin 96 → Fin 96 → Fin 3 → Fin 3 → EReal := fun o ci dy dx => L (Proc.devRef .tc main_arg4) (ix4 o ci dy dx)
/-- and the shared bias. -/
def sharedBiasOf : Fin 96 → EReal := fun o => L (Proc.devRef .tc main_arg5) (ix1 o)

/-- An image with a border of zeros, at an index. -/
theorem pad_apply (A : FVec Ideal S1x96x224x224 .f32) (ci : Fin 96) (r k : Fin 226) :
    pad S1x96x226x226 ![0, 0, 1, 1] ![0, 0, 1, 1] ![0, 0, 0, 0] A (sitofp .f32 (constantI S_ 32 0#32) : FVec Ideal S_ .f32)
      Facts₀.pads_S1x96x224x224_S1x96x226x226_000_000_110_110 Facts₀.h_S_ (ix4 0 ci r k)
      = padded (fun ci h w => A (ix4 0 ci h w)) ci r.val k.val := by
  have h0 : FloatOps.sitofp (F := Ideal) FTy.f32 (0#32) = (0 : EReal) := by
    show (((0#32 : BitVec 32).toInt : ℝ) : EReal) = 0
    simp
  pointwise
  unfold padded
  have hr := r.isLt
  have hk := k.isLt
  by_cases h : (1 ≤ r.val ∧ r.val - 1 < 224) ∧ 1 ≤ k.val ∧ k.val - 1 < 224
  · rw [dif_pos h, dif_pos (by omega)]
  · rw [dif_neg h, dif_neg (by omega)]
    exact h0

/-- Nine taps, added in order, are a convolution. -/
theorem nine (P : FVec Ideal S1x96x226x226 .f32) (X : Fin 96 → Fin 224 → Fin 224 → EReal) (K : Fin 96 → Fin 3 → Fin 3 → EReal)
    (hP : ∀ ci r k, P (ix4 0 ci r k) = padded X ci r.val k.val) (h w : Fin 224) :
    (∑ x : Fin 96, P (ix4 0 x ⟨h.val, by omega⟩ ⟨w.val, by omega⟩) * K x 0 0)
      + (∑ x : Fin 96, P (ix4 0 x ⟨h.val, by omega⟩ ⟨1 + w.val, by omega⟩) * K x 0 1)
      + (∑ x : Fin 96, P (ix4 0 x ⟨h.val, by omega⟩ ⟨2 + w.val, by omega⟩) * K x 0 2)
      + (∑ x : Fin 96, P (ix4 0 x ⟨1 + h.val, by omega⟩ ⟨w.val, by omega⟩) * K x 1 0)
      + (∑ x : Fin 96, P (ix4 0 x ⟨1 + h.val, by omega⟩ ⟨1 + w.val, by omega⟩) * K x 1 1)
      + (∑ x : Fin 96, P (ix4 0 x ⟨1 + h.val, by omega⟩ ⟨2 + w.val, by omega⟩) * K x 1 2)
      + (∑ x : Fin 96, P (ix4 0 x ⟨2 + h.val, by omega⟩ ⟨w.val, by omega⟩) * K x 2 0)
      + (∑ x : Fin 96, P (ix4 0 x ⟨2 + h.val, by omega⟩ ⟨1 + w.val, by omega⟩) * K x 2 1)
      + (∑ x : Fin 96, P (ix4 0 x ⟨2 + h.val, by omega⟩ ⟨2 + w.val, by omega⟩) * K x 2 2) = conv X K h w := by
  have hc : conv X K h w = ∑ dy : Fin 3, ∑ dx : Fin 3, ∑ ci : Fin 96, padded X ci (dy.val + h.val) (dx.val + w.val) * K ci dy dx :=
    Finset.sum_congr rfl fun dy _ => Finset.sum_congr rfl fun dx _ => Finset.sum_congr rfl fun ci _ => by
      rw [mul_comm, Nat.add_comm h.val, Nat.add_comm w.val]
  rw [hc, Fin.sum_univ_three, Fin.sum_univ_three, Fin.sum_univ_three, Fin.sum_univ_three]
  simp only [hP, Fin.val_zero, Fin.val_one, Fin.val_two, Nat.zero_add, add_assoc]

/-- The gate's padded image. -/
theorem v1_apply (ci : Fin 96) (r k : Fin 226) : res_main_v1 L (ix4 0 ci r k) = padded (photo L) ci r.val k.val := by
  unfold res_main_v1
  exact pad_apply _ ci r k

/-- The experts' padded image. -/
theorem v94_apply (ci : Fin 96) (r k : Fin 226) : res_main_v94 L (ix4 0 ci r k) = padded (photo L) ci r.val k.val := by
  unfold res_main_v94
  exact pad_apply _ ci r k

/-- The shared expert's padded image. -/
theorem v158_apply (ci : Fin 96) (r k : Fin 226) : res_main_v158 L (ix4 0 ci r k) = padded (photo L) ci r.val k.val := by
  unfold res_main_v158
  exact pad_apply _ ci r k

/-- The denominator of the gate's scores. -/
theorem v60_apply (e : Fin 8) (h w : Fin 224) :
    res_main_v60 L (ix4 0 e h w) = (1 + Ideal.exp (-(conv (photo L) (gateOf L e) h w)) : EReal) := by
  have hP := v1_apply L
  unfold res_main_v60
  rw [← nine (res_main_v1 L) (photo L) (gateOf L e) hP h w]
  unfold gateOf
  generalize res_main_v1 L = P
  generalize L (Proc.devRef .tc main_arg1) = K
  clean_types
  pointwise

/-- The gate's scores. -/
theorem v62_apply (e : Fin 8) (h w : Fin 224) (t : ℝ) (ht : conv (photo L) (gateOf L e) h w = t) :
    res_main_v62 L (ix4 0 e h w) = (sigm t : EReal) := by
  have h60 := v60_apply L e h w
  rw [ht] at h60
  unfold res_main_v62
  have h : ∀ D : FVec Ideal S1x8x224x224 .f32,
      Host.divf (broadcastInDim S1x8x224x224 ![] Facts₀.bcast_S_S1x8x224x224 (constant S_ .f32 0x3F800000#32)) D (ix4 0 e h w)
        = Ideal.div 1 (D (ix4 0 e h w)) := fun D => by pointwise
  refine (h _).trans ?_
  rw [h60, ← EReal.coe_neg, div_one_add_exp]
  rfl

/-- The shared convolution. -/
theorem v213_apply (o : Fin 96) (h w : Fin 224) :
    res_main_v213 L (ix4 0 o h w) = conv (photo L) (sharedOf L o) h w := by
  have hP := v158_apply L
  unfold res_main_v213
  rw [← nine (res_main_v158 L) (photo L) (sharedOf L o) hP h w]
  unfold sharedOf
  generalize res_main_v158 L = P
  generalize L (Proc.devRef .tc main_arg4) = K
  clean_types
  pointwise

/-- The ninth tap of the experts' convolutions. -/
def lastTap : FVec Ideal S8x1x96x224x224 .f32 :=
  transpose S8x1x96x224x224 [3, 0, 4, 1, 2] (Host.dotGeneral (φ₁ := .f32) (φ₂ := .f32) dot_S1x96x224x224_S8x96x96_S1x224x224x8x96_1_2_023_01_n_n none (extractStridedSlice S1x96x224x224 ![0, 0, 2, 2] (res_main_v94 L) Facts₀.slices_S1x96x226x226_S1x96x224x224_0_0_2_2) (shapeCast _ (extractStridedSlice S8x96x96x1x1 ![0, 0, 0, 2, 2] (L (Proc.devRef .tc main_arg2)) Facts₀.slices_S8x96x96x3x3_S8x96x96x1x1_0_0_0_2_2) Facts₀.shapeCasts_S8x96x96x1x1_S8x96x96)) Facts₀.transposes_S1x224x224x8x96_S8x1x96x224x224_3_0_4_1_2

/-- The experts' convolutions. -/
theorem experts_apply (e : Fin 8) (o : Fin 96) (h w : Fin 224) :
    addf (res_main_v145 L : FVec Ideal S8x1x96x224x224 .f32) (lastTap L) (ix5 e 0 o h w) = conv (photo L) (expertOf L e o) h w := by
  have hP := v94_apply L
  unfold res_main_v145 lastTap
  rw [← nine (res_main_v94 L) (photo L) (expertOf L e o) hP h w]
  unfold expertOf
  generalize res_main_v94 L = P
  generalize L (Proc.devRef .tc main_arg2) = K
  clean_types
  pointwise

end convs

end Cert.ReferenceIdeal.Moe

end
-- ==== Proof.RefRoute.lean ====
module

public import proofs.«01_k».proof.Defs
public import proofs.«01_k».proof.Proof.Gen.ReferenceIdeal.Run
public import proofs.«01_k».proof.Proof.RefConv
public import Idealize.ShloMosaic.Lib.Pointwise
public import Idealize.ShloMosaic.Lib.Claim
public import Idealize.ShloMosaic.Lib.Tactic.CleanTypes

@[expose] public section

set_option maxRecDepth 16384

noncomputable section

/-! # The reference's routing at an index -/

namespace Cert.ReferenceIdeal.Moe

open Idealize.ShloMosaic Idealize.ShloMosaic.TcCoe Idealize.SL.Sem
open Cert.ReferenceIdeal Cert.ReferenceIdeal.Value
open Cert.Moe

/-- An index's neighbours along the last axis. -/
theorem along_last (h w : Fin 224) (k a : Fin 8) :
    Shape.Idx.along (s := S1x224x224x8) (ix4 0 h w k) 3 a = ix4 0 h w a := by
  funext b
  match b with
  | 0 => rfl
  | 1 => rfl
  | 2 => rfl
  | 3 => rfl

/-- Which of the eight the top two are at a pixel. -/
theorem topK_index (gt : EReal → EReal → BitVec 1) (x : FVec Ideal S1x224x224x8 .f32) (h w : Fin 224) (j : Fin 2) :
    (Host.topK S1x224x224x2 3 gt x Facts₀.sliceFits_S1x224x224x8_S1x224x224x2).2 (ix4 0 h w j)
      = BitVec.ofNat 32 (sortedFrom (fun a b : Fin 8 => gt (x (ix4 0 h w a)) (x (ix4 0 h w b)) == 1#1) ⟨j.val, by omega⟩).val := by
  have hi : ∀ J : S1x224x224x8.Idx, J = ix4 0 h w ⟨j.val, by omega⟩ →
      (Host.sort2 S1x224x224x8 3 (fun l r : EReal × BitVec 32 => gt l.1 r.1) x (fun i => BitVec.ofNat 32 (i 3).val)).2 J
        = BitVec.ofNat 32 (sortedFrom (fun a b : Fin 8 => gt (x (ix4 0 h w a)) (x (ix4 0 h w b)) == 1#1) ⟨j.val, by omega⟩).val := by
    rintro J rfl
    show BitVec.ofNat 32 (sortedFrom (fun a b : Fin 8 =>
      gt (x (Shape.Idx.along (s := S1x224x224x8) (ix4 0 h w ⟨j.val, by omega⟩) 3 a))
        (x (Shape.Idx.along (s := S1x224x224x8) (ix4 0 h w ⟨j.val, by omega⟩) 3 b)) == 1#1) ⟨j.val, by omega⟩).val = _
    simp only [along_last]
  refine hi _ ?_
  funext b
  match b with
  | 0 => rfl
  | 1 => exact Fin.ext (Nat.zero_add _)
  | 2 => exact Fin.ext (Nat.zero_add _)
  | 3 => exact Fin.ext (Nat.zero_add _)

/-- The score a gather by expert reads at a pixel. -/
theorem gather_apply (x : FVec Ideal S1x8x224x224 .f32) (idx : IVec S2x224x224x1 32) (j : Fin 2) (h w : Fin 224) (i : Fin 8)
    (hi : idx (ix4 j h w 0) = BitVec.ofNat 32 i.val) :
    Host.gather gather_S1x8x224x224_S2x224x224x1_S1x2x224x224_0_1_23_12_1_3_1111 x idx (ix4 0 j h w) = x (ix4 0 i h w) := by
  refine congrArg x (funext fun a => Fin.ext ?_)
  match a with
  | 0 => rfl
  | 1 =>
    have hs : gather_S1x8x224x224_S2x224x224x1_S1x2x224x224_0_1_23_12_1_3_1111.siIdx (ix4 0 j h w) ⟨0, by decide⟩ = ix4 j h w 0 := by
      funext b
      match b with
      | 0 => rfl
      | 1 => rfl
      | 2 => rfl
      | 3 => rfl
    show min (idx (gather_S1x8x224x224_S2x224x224x1_S1x2x224x224_0_1_23_12_1_3_1111.siIdx (ix4 0 j h w) ⟨0, by decide⟩)).toInt.toNat 7
      + 0 + 0 = i.val
    rw [hs, hi]
    exact (by decide : ∀ i : Fin 8, min (BitVec.ofNat 32 i.val).toInt.toNat 7 + 0 + 0 = i.val) i
  | 2 => exact Nat.zero_add _
  | 3 => exact Nat.zero_add _

section route

variable (L : Valuation τ sig (Elt Ideal)) (h w : Fin 224) (t : Fin 8 → ℝ) (ht : ∀ e, conv (photo L) (gateOf L e) h w = t e)

include ht

/-- The scores with the experts last. -/
theorem v66_apply (k : Fin 8) : res_main_v66 L (ix4 0 h w k) = (sigm (t k) : EReal) := by
  have h62 := v62_apply L k h w (t k) (ht k)
  rw [← h62]
  unfold res_main_v66
  generalize res_main_v62 L = A
  clean_types
  pointwise

omit ht

/-- The order in which the reference sorts the experts at a pixel. -/
def before (a b : Fin 8) : Bool :=
  FloatOps.cmpfTotal (F := Ideal) (φ := .f32) .gt (sigm (t a) : EReal) (sigm (t b) : EReal) == 1#1

/-- That order puts the larger score first. -/
theorem before_iff (a b : Fin 8) : before t a b = true ↔ (sigm (t b) : EReal) < (sigm (t a) : EReal) := by
  unfold before
  rw [Ideal.cmpfTotal_def]
  simp only [Ideal.cmp, CmpDirection.ordered, beq_iff_eq]
  by_cases h : (sigm (t b) : EReal) < (sigm (t a) : EReal) <;> simp [h]

/-- The best and the second best of the experts at a pixel. -/
def top (j : Fin 2) : Fin 8 := sortedFrom (before t) ⟨j.val, by omega⟩

include ht

/-- The two choices at a pixel. -/
theorem v67_apply (j : Fin 2) : res_main_v67 L (ix4 0 j h w) = BitVec.ofNat 32 (top t j).val := by
  have h66 := v66_apply L h w t ht
  unfold res_main_v67
  generalize res_main_v66 L = A at *
  clean_types
  pointwise
  refine (topK_index _ A h w j).trans ?_
  unfold top before
  simp only [h66]

/-- The choices as the gather takes them: none is negative, so none is moved. -/
theorem v5_apply (j : Fin 2) : res_main_call1_v5 L (ix4 j h w 0) = BitVec.ofNat 32 (top t j).val := by
  have h67 := v67_apply L h w t ht j
  unfold res_main_call1_v5
  generalize res_main_v67 L = A at *
  clean_types
  pointwise
  rw [h67]
  exact (by decide : ∀ i : Fin 8, Scalar.select (IntOp.cmpi .slt (BitVec.ofNat 32 i.val) 0#32)
    (IntOp.addi (BitVec.ofNat 32 i.val) 8#32) (BitVec.ofNat 32 i.val) = BitVec.ofNat 32 i.val) (top t j)

/-- The chosen experts' scores. -/
theorem v68_apply (j : Fin 2) : res_main_v68 L (ix4 0 j h w) = (sigm (t (top t j)) : EReal) := by
  have h5 := v5_apply L h w t ht j
  have hg := gather_apply (res_main_v62 L) (res_main_call1_v5 L) j h w (top t j) h5
  rw [v62_apply L (top t j) h w (t (top t j)) (ht _)] at hg
  unfold res_main_v68
  rw [← hg]
  generalize Host.gather gather_S1x8x224x224_S2x224x224x1_S1x2x224x224_0_1_23_12_1_3_1111 (res_main_v62 L) (res_main_call1_v5 L) = B
  generalize res_main_call1_v5 L = A at *
  clean_types
  pointwise
  have hw : Finset.fold IntOp.andi 1#1 (fun x : Fin 1 => IntOp.andi (IntOp.cmpi .sge (A (ix4 j h w x)) 0#32)
      (IntOp.cmpi .sle (A (ix4 j h w x)) 7#32)) Finset.univ = 1#1 := by
    rw [show (Finset.univ : Finset (Fin 1)) = {0} from rfl, Finset.fold_singleton, h5]
    exact (by decide : ∀ i : Fin 8, IntOp.andi (IntOp.andi (IntOp.cmpi .sge (BitVec.ofNat 32 i.val) 0#32)
      (IntOp.cmpi .sle (BitVec.ofNat 32 i.val) 7#32)) 1#1 = 1#1) (top t j)
  rw [hw]
  rfl

/-- The exponentials of those scores, less one real, the larger of them. -/
theorem v75_apply : ∃ M : ℝ, ∀ j : Fin 2, res_main_v75 L (ix4 0 j h w) = (Ideal.exp ((sigm (t (top t j)) : EReal) - (M : EReal)) : EReal) := by
  have h68 := v68_apply L h w t ht
  unfold res_main_v75
  generalize res_main_v68 L = A at *
  refine ⟨max (sigm (t (top t 0))) (sigm (t (top t 1))), fun j => ?_⟩
  clean_types
  pointwise
  have hb : Ideal.ofBits .f32 4286578688#32 = ⊥ := by simp [Ideal.ofBits, Ideal.ieee]
  have hf : Finset.fold max (⊥ : EReal) (fun x : Fin 2 => (A (ix4 0 x h w) : EReal)) Finset.univ
      = ((max (sigm (t (top t 0))) (sigm (t (top t 1))) : ℝ) : EReal) := by
    rw [show (Finset.univ : Finset (Fin 2)) = {0, 1} from rfl, Finset.fold_insert (by decide), Finset.fold_singleton,
      h68 0, h68 1, max_eq_left (bot_le : ⊥ ≤ ((sigm (t (top t 1)) : ℝ) : EReal))]
    exact (EReal.coe_strictMono.monotone.map_max).symm
  rw [hb, h68 j]
  exact congrArg (fun M : EReal => (Ideal.exp ((sigm (t (top t j)) : EReal) - M) : EReal))
    ((max_eq_right bot_le).trans hf)

end route

end Cert.ReferenceIdeal.Moe

end
-- ==== Proof.RefValue.lean ====
module

public import proofs.«01_k».proof.Defs
public import proofs.«01_k».proof.Proof.Gen.ReferenceIdeal.Run
public import proofs.«01_k».proof.Proof.RefRoute
public import Idealize.ShloMosaic.Lib.Pointwise
public import Idealize.ShloMosaic.Lib.Claim
public import Idealize.ShloMosaic.Lib.Tactic.CleanTypes

@[expose] public section

set_option maxRecDepth 16384

noncomputable section

/-! # The reference's result at an index -/

namespace Cert.ReferenceIdeal.Moe

open Idealize.ShloMosaic Idealize.ShloMosaic.TcCoe Idealize.SL.Sem
open Cert.ReferenceIdeal Cert.ReferenceIdeal.Value
open Cert.Moe

section value

variable (L : Valuation τ sig (Elt Ideal))

/-- The weight of every expert at every pixel. -/
def routed : FVec Ideal S8x1x224x224 .f32 :=
  Host.reduceAdd (mulf (broadcastInDim S8x1x2x224x224 ![0, 1, 2, 3, 4] Facts₀.bcast_S1x1x2x224x224_S8x1x2x224x224_0_1_2_3_4 (broadcastInDim S1x1x2x224x224 ![1, 2, 3, 4] Facts₀.bcast_S1x2x224x224_S1x1x2x224x224_1_2_3_4 (mulf (Host.divf (res_main_v75 L) (broadcastInDim S1x2x224x224 ![0, 1, 2, 3] Facts₀.bcast_S1x1x224x224_S1x2x224x224_0_1_2_3 (broadcastInDim S1x1x224x224 ![0, 2, 3] Facts₀.bcast_S1x224x224_S1x1x224x224_0_2_3 (Host.reduceAdd (res_main_v75 L) (constant S_ .f32 0x00000000#32) Facts₀.reducesTo_S1x2x224x224_S1x224x224_d1 Facts₀.h_S_)))) (broadcastInDim S1x2x224x224 ![] Facts₀.bcast_S_S1x2x224x224 (constant S_ .f32 0x3F800000#32))))) (uitofp .f32 (cmpi .eq (broadcastInDim S8x1x2x224x224 ![0, 1, 2, 3, 4] Facts₀.bcast_S1x1x2x224x224_S8x1x2x224x224_0_1_2_3_4 (broadcastInDim S1x1x2x224x224 ![1, 2, 3, 4] Facts₀.bcast_S1x2x224x224_S1x1x2x224x224_1_2_3_4 (res_main_v67 L))) (broadcastInDim S8x1x2x224x224 ![0, 1, 2, 3, 4] Facts₀.bcast_S8x1x1x1x1_S8x1x2x224x224_0_1_2_3_4 (broadcastInDim S8x1x1x1x1 ![0] Facts₀.bcast_S8_S8x1x1x1x1_0 (iotaInDim S8 32 0)))))) (constant S_ .f32 0x00000000#32) Facts₀.reducesTo_S8x1x2x224x224_S8x1x224x224_d2 Facts₀.h_S_

/-- The reference's result. -/
def result : FVec Ideal S1x96x224x224 .f32 :=
  addf (Host.reduceAdd (mulf (addf (addf (res_main_v145 L) (lastTap L)) (broadcastInDim S8x1x96x224x224 ![0, 1, 2, 3, 4] Facts₀.bcast_S8x1x96x1x1_S8x1x96x224x224_0_1_2_3_4 (broadcastInDim S8x1x96x1x1 ![0, 2] Facts₀.bcast_S8x96_S8x1x96x1x1_0_2 (L (Proc.devRef .tc main_arg3))))) (broadcastInDim S8x1x96x224x224 ![0, 1, 2, 3, 4] Facts₀.bcast_S8x1x1x224x224_S8x1x96x224x224_0_1_2_3_4 (broadcastInDim S8x1x1x224x224 ![0, 1, 3, 4] Facts₀.bcast_S8x1x224x224_S8x1x1x224x224_0_1_3_4 (routed L)))) (constant S_ .f32 0x00000000#32) Facts₀.reducesTo_S8x1x96x224x224_S1x96x224x224_d0 Facts₀.h_S_) (addf (res_main_v213 L) (broadcastInDim S1x96x224x224 ![0, 1, 2, 3] Facts₀.bcast_S1x96x1x1_S1x96x224x224_0_1_2_3 (broadcastInDim S1x96x1x1 ![1] Facts₀.bcast_S96_S1x96x1x1_1 (L (Proc.devRef .tc main_arg5)))))

variable (h w : Fin 224) (t : Fin 8 → ℝ)

/-- The reference's first choice has the greatest logit. -/
theorem top_first (z : Fin 8 → EReal) (hz : ∀ e, z e = t e) : IsBest z (fun _ => True) (top t 0) :=
  (sorted_first (fun e => (sigm (t e) : EReal)) (before t) (before_iff t)).transport fun j k => by
    rw [hz, hz, EReal.coe_lt_coe_iff, EReal.coe_lt_coe_iff, sigm_lt_iff]

/-- Its second choice has the greatest logit of the others. -/
theorem top_second (z : Fin 8 → EReal) (hz : ∀ e, z e = t e) : IsBest z (fun k => k ≠ top t 0) (top t 1) :=
  (sorted_second (fun e => (sigm (t e) : EReal)) (before t) (before_iff t)).transport fun j k => by
    rw [hz, hz, EReal.coe_lt_coe_iff, EReal.coe_lt_coe_iff, sigm_lt_iff]

/-- The bit that two experts are the same, as a float. -/
theorem hit (i e : Fin 8) :
    (FloatOps.uitofp (F := Ideal) .f32 (IntOp.cmpi .eq (BitVec.ofNat 32 i.val) (BitVec.ofNat 32 e.val)) : EReal)
      = ((if e = i then 1 else 0 : ℝ) : EReal) := by
  have hb : IntOp.cmpi .eq (BitVec.ofNat 32 i.val) (BitVec.ofNat 32 e.val) = if e = i then 1#1 else 0#1 :=
    (by decide : ∀ i e : Fin 8, IntOp.cmpi .eq (BitVec.ofNat 32 i.val) (BitVec.ofNat 32 e.val)
      = if e = i then 1#1 else 0#1) i e
  rw [hb]
  split
  · exact congrArg (fun x : ℝ => (x : EReal)) Nat.cast_one
  · exact congrArg (fun x : ℝ => (x : EReal)) Nat.cast_zero

/-- Each expert's weight at a pixel. -/
theorem routed_apply (ht : ∀ e, conv (photo L) (gateOf L e) h w = t e) (e : Fin 8) :
    routed L (ix4 e 0 h w) = (weight (top t 0) (top t 1) (t (top t 0)) (t (top t 1)) e : EReal) := by
  have h67 := v67_apply L h w t ht
  obtain ⟨M, h75⟩ := v75_apply L h w t ht
  unfold routed
  generalize res_main_v67 L = B at *
  generalize res_main_v75 L = A at *
  clean_types
  pointwise
  rw [Fin.sum_univ_two, Fin.sum_univ_two, h75 0, h75 1, h67 0, h67 1, softmax_first, softmax_second, hit, hit,
    ← EReal.coe_mul, ← EReal.coe_mul, ← EReal.coe_add]
  unfold weight
  rw [mul_ite, mul_ite, mul_one, mul_zero, mul_one, mul_zero]

/-- The reference's result at one index. -/
theorem result_apply (hX : ∀ ci h w, ∃ x : ℝ, photo L ci h w = x)
    (hG : ∀ (e : Fin 8) (ci : Fin 96) (dy dx : Fin 3), ∃ x : ℝ, gateOf L e ci dy dx = x) (o : Fin 96) :
    IsEntry (fun e => conv (photo L) (gateOf L e) h w) (fun e => conv (photo L) (expertOf L e o) h w)
      (fun e => biasOf L e o) (conv (photo L) (sharedOf L o) h w) (sharedBiasOf L o) (result L (ix4 0 o h w)) := by
  choose t ht using fun e => conv_real (photo L) (gateOf L e) h w hX (hG e)
  refine ⟨t, top t 0, top t 1, ht, top_first t _ ht, top_second t _ ht, ?_⟩
  have hr := routed_apply L h w t ht
  have he := fun e => experts_apply L e o h w
  have hs := v213_apply L o h w
  simp only [← hr, ← he, ← hs]
  unfold biasOf sharedBiasOf result
  generalize routed L = R
  generalize addf (res_main_v145 L : FVec Ideal S8x1x96x224x224 .f32) (lastTap L) = A
  generalize res_main_v213 L = S
  generalize L (Proc.devRef .tc main_arg3) = b
  generalize L (Proc.devRef .tc main_arg5) = b₀
  clean_types
  pointwise

end value

end Cert.ReferenceIdeal.Moe

end
-- ==== Proof.Finite.lean ====
module

public import proofs.«01_k».proof.Defs
public import proofs.«01_k».proof.Proof.Gen.Pre_finite_gate
public import Idealize.ShloMosaic.Lib.Pointwise
public import Idealize.ShloMosaic.Lib.Claim
public import Idealize.ShloMosaic.Lib.ReduceAll

@[expose] public section

set_option maxRecDepth 16384

noncomputable section

/-! # What the precondition says: the image and the gate's weights are reals -/

namespace Cert.Moe

open Idealize.ShloMosaic Idealize.ShloMosaic.TcCoe Idealize.SL.Sem

/-- An extended real whose absolute value is below `⊤` is a real. -/
theorem real_of_abs_lt (x : EReal) (h : max x (-x) < ⊤) : ∃ r : ℝ, x = r := by
  induction x with
  | bot => simp at h
  | coe r => exact ⟨r, rfl⟩
  | top => simp at h

/-- The bit «its absolute value is below the pattern of `+∞`» is set at a real only. -/
theorem real_of_bit (x : EReal)
    (h : FloatOps.cmpf (F := Ideal) (φ := .f32) .olt (max x (-x) : EReal) (Ideal.ofBits .f32 0x7F800000#32) = 1#1) :
    ∃ r : ℝ, x = r := by
  have hi : Ideal.ofBits .f32 0x7F800000#32 = (⊤ : EReal) := by simp [Ideal.ofBits, Ideal.ieee]
  rw [hi] at h
  have h' : BitVec.ofBool (decide (max x (-x) < (⊤ : EReal))) = 1#1 := h
  refine real_of_abs_lt x ?_
  by_contra hn
  rw [decide_eq_false hn] at h'
  exact absurd h' (by decide)

section

open Cert.Pre_finite_gate

/-- A rank-zero shape has one index. -/
instance : Subsingleton S_.Idx := ⟨fun i j => funext fun a => a.elim0⟩

/-- The precondition's two facts: every entry of the first array and of the second is a real. -/
theorem finite_gate (A : FVec Ideal S1x96x224x224 .f32) (G : FVec Ideal S8x96x3x3 .f32) (W : FVec Ideal S8x96x96x3x3 .f32)
    (b : FVec Ideal S8x96 .f32) (W₀ : FVec Ideal S96x96x3x3 .f32) (b₀ : FVec Ideal S96 .f32)
    (h : Cert.Pre_finite_gate.fn (F := Ideal) A G W b W₀ b₀ = fun _ => 1#1) :
    (∀ i, ∃ r : ℝ, A i = r) ∧ ∀ i, ∃ r : ℝ, G i = r := by
  obtain ⟨hA, hG⟩ := IntOp.andi_eq_one.1 (congrFun h ix0)
  exact ⟨fun i => real_of_bit (A i) (Host.reduce_andi_all _ _ _ _ _ hA i),
    fun i => real_of_bit (G i) (Host.reduce_andi_all _ _ _ _ _ hG i)⟩

end

end Cert.Moe

end
-- ==== Proof.Meet.lean ====
module

public import proofs.«01_k».proof.Defs
public import proofs.«01_k».proof.Proof.KernelArray
public import proofs.«01_k».proof.Proof.RefValue
public import proofs.«01_k».proof.Proof.Finite
public import Idealize.ShloMosaic.Lib.Pointwise
public import Idealize.ShloMosaic.Lib.Claim

@[expose] public section

set_option maxRecDepth 16384

noncomputable section

/-! # The kernel's result and the reference's are one array -/

namespace Cert.Meet

open Idealize.ShloMosaic Idealize.ShloMosaic.TcCoe Idealize.SL.Sem
open Cert.Moe

variable (m : (ℓ : Loc Cert.KernelIdeal.nD Cert.KernelIdeal.τ Cert.KernelIdeal.sig) → Buf (Elt Ideal) ℓ)
variable (c : Dev Cert.KernelIdeal.nD)

section kernel

open Cert.KernelIdeal Cert.KernelIdeal.Gen

/-- What the kernel leaves in its result. -/
def kernelResult : FVec Ideal S1x96x224x224 .f32 :=
  Pipeline.afterTail₀ cfgs (Gen.dats m) 0 (Gen.V0 m) [Gen.hostOps1] c main_v24

/-- A leading axis of size one put before an array. -/
theorem lead_apply (A : FVec Ideal S96x224x224 .f32) (o : Fin 96) (h w : Fin 224) :
    broadcastInDim S1x96x224x224 ![1, 2, 3] Facts₀.bcast_S96x224x224_S1x96x224x224_1_2_3 A (ix4 0 o h w) = A (ix3 o h w) := by
  pointwise

/-- The kernel's result is the grid's array with a leading axis. -/
theorem kernelResult_apply (o : Fin 96) (h w : Fin 224) :
    kernelResult m c (ix4 0 o h w) = (dats m 0 c).arrAt 5 (cfgs 0).N (ix3 o h w) := by
  unfold kernelResult Pipeline.afterTail₀
  simp only [hostOps1, List.flatten_cons, List.flatten_nil, List.append_nil, StableHlo.after_cons, StableHlo.after_nil]
  after_reads_simp
  refine (lead_apply _ o h w).trans ?_
  exact congrFun (Pipeline.withArrays_arr (cfgs 0).spec (by decide) c (V0 m c)
    (fun w => (dats m 0 c).arrAt w (cfgs 0).N) 5) (ix3 o h w)

end kernel

/-- From memories that agree on the arguments, with the image and the gate's weights real, the two results are equal. -/
theorem results (m' : (ℓ : Loc Cert.ReferenceIdeal.nD Cert.ReferenceIdeal.τ Cert.ReferenceIdeal.sig) → Buf (Elt Ideal) ℓ)
    (hpre : Cert.Pre_KernelIdeal_finite_gate m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Moe.result (StableHlo.launchContents m' c) = kernelResult m c := by
  obtain ⟨hA, hG⟩ := finite_gate _ _ _ _ _ _ (hpre c)
  have hX : ∀ ci h w, ∃ x : ℝ, Cert.KernelIdeal.Moe.photo m c ci h w = x := fun ci h w => hA (ix4 0 ci h w)
  have hK : ∀ (e : Fin 8) (ci : Fin 96) (dy dx : Fin 3), ∃ x : ℝ, Cert.KernelIdeal.Moe.gateOf m c e ci dy dx = x :=
    fun e ci dy dx => hG (ix4 e ci dy dx)
  have e0 : Cert.ReferenceIdeal.Moe.photo (StableHlo.launchContents m' c) = Cert.KernelIdeal.Moe.photo m c :=
    funext fun ci => funext fun h => funext fun w => congrFun h0 (ix4 0 ci h w)
  have e1 : Cert.ReferenceIdeal.Moe.gateOf (StableHlo.launchContents m' c) = Cert.KernelIdeal.Moe.gateOf m c :=
    funext fun e => funext fun ci => funext fun dy => funext fun dx => congrFun h1 (ix4 e ci dy dx)
  have e2 : Cert.ReferenceIdeal.Moe.expertOf (StableHlo.launchContents m' c) = Cert.KernelIdeal.Moe.expertOf m c :=
    funext fun e => funext fun o => funext fun ci => funext fun dy => funext fun dx => congrFun h2 (ix5 e o ci dy dx)
  have e3 : Cert.ReferenceIdeal.Moe.biasOf (StableHlo.launchContents m' c) = Cert.KernelIdeal.Moe.biasOf m c :=
    funext fun e => funext fun o => congrFun h3 (ix2 e o)
  have e4 : Cert.ReferenceIdeal.Moe.sharedOf (StableHlo.launchContents m' c) = Cert.KernelIdeal.Moe.sharedOf m c :=
    funext fun o => funext fun ci => funext fun dy => funext fun dx => congrFun h4 (ix4 o ci dy dx)
  have e5 : Cert.ReferenceIdeal.Moe.sharedBiasOf (StableHlo.launchContents m' c) = Cert.KernelIdeal.Moe.sharedBiasOf m c :=
    funext fun o => congrFun h5 (ix1 o)
  funext i
  obtain ⟨o, h, w, rfl⟩ : ∃ (o : Fin 96) (h w : Fin 224), i = ix4 0 o h w :=
    ⟨i 1, i 2, i 3, (eq_ix4 i).trans (congrArg (fun a => ix4 a (i 1) (i 2) (i 3)) (Subsingleton.elim _ _))⟩
  have hr := Cert.ReferenceIdeal.Moe.result_apply (StableHlo.launchContents m' c) h w
    (by rw [e0]; exact hX) (by rw [e1]; exact hK) o
  rw [e0, e1, e2, e3, e4, e5] at hr
  rw [kernelResult_apply]
  exact hr.unique (Cert.KernelIdeal.Moe.final m c hX hK (ix3 o h w))

/-- The two programs end with equal results. -/
theorem algebraic : Cert.algebraic_KernelIdeal_ReferenceIdeal_pre_finite_gate := by
  intro m g m' g' hpre hagree
  refine ⟨fun c => kernelResult m c, ?_, ?_⟩
  · refine θ_run_mono (Cert.KernelIdeal.Gen.run_main m g) fun r hr c => ?_
    have h := hr c
    refine ⟨h.2 _ (by decide), ?_, ?_, ?_, ?_, ?_, ?_⟩
    · exact (h.2 _ (by decide)).trans (Cert.KernelIdeal.Gen.W_main_arg0 m (Cert.KernelIdeal.Gen.dats m) c)
    · exact (h.2 _ (by decide)).trans (Cert.KernelIdeal.Gen.W_main_arg1 m (Cert.KernelIdeal.Gen.dats m) c)
    · exact (h.2 _ (by decide)).trans (Cert.KernelIdeal.Gen.W_main_arg2 m (Cert.KernelIdeal.Gen.dats m) c)
    · exact (h.2 _ (by decide)).trans (Cert.KernelIdeal.Gen.W_main_arg3 m (Cert.KernelIdeal.Gen.dats m) c)
    · exact (h.2 _ (by decide)).trans (Cert.KernelIdeal.Gen.W_main_arg4 m (Cert.KernelIdeal.Gen.dats m) c)
    · exact (h.2 _ (by decide)).trans (Cert.KernelIdeal.Gen.W_main_arg5 m (Cert.KernelIdeal.Gen.dats m) c)
  · refine θ_run_mono (Cert.ReferenceIdeal.Value.run m' g') fun r hr c => ?_
    obtain ⟨hv, hargs⟩ := hr c
    obtain ⟨h0, h1, h2, h3, h4, h5⟩ := hagree c
    refine ⟨hv.trans ?_, hargs⟩
    exact results m c m' hpre h0 h1 h2 h3 h4 h5

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_gate
public import proofs.«01_k».proof.Proof.Gen.ReferenceIdeal.Run
public import proofs.«01_k».proof.Proof.Meet
public import Idealize.ShloMosaic.Lib.StableHlo.RunHlo
public import Idealize.ShloMosaic.Adequacy
public import Idealize.ShloMosaic.Init

@[expose] public section

noncomputable section

namespace Cert.Proof

open Idealize.ShloMosaic Idealize.SL.Sem

/-- The reference runs, leaves its arguments unchanged, and ends with every semaphore at zero. -/
theorem reference_frame : Cert.quiescent_ReferenceIdeal := fun m g _ =>
  θ_run_mono (Cert.ReferenceIdeal.Value.run m g) fun r hr =>
    ⟨fun c => (hr c).2, sem_eq_zero_of_no_sems (by decide) r.2⟩

/-- The named constant's rule. -/
theorem idealization : Cert.preserves_Kernel_KernelIdeal := IdealRules.named_const.statement _ _ _ _ _ rfl

/-- All that is claimed. -/
theorem claim : Cert.Claim := ⟨Cert.Kernel.Gen.facts, Cert.KernelIdeal.Gen.facts, Cert.ReferenceIdeal.Gen.facts, Cert.Pre_finite_gate.Gen.facts,
  fun m ρ _ => Cert.Kernel.Gen.frame m ρ, fun m ρ _ => Cert.KernelIdeal.Gen.frame m ρ, fun m ρ _ => Cert.KernelIdeal.Gen.frame m ρ,
  reference_frame, fun m g _ => reference_frame m g trivial, idealization, Cert.Meet.algebraic⟩

end Cert.Proof

end
